-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "inv_ln2" .f32 0x3FB8AA3B#32 (((Real.log 2)⁻¹ : ℝ) : EReal)
  ∧ IdealRules.named_const.Statement Cert.KernelIdeal.κ "inv_sqrt_d" .f32 0x3DB504F3#32 (((Real.sqrt 128)⁻¹ : ℝ) : EReal)

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ preserves_Kernel_KernelIdeal
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
-- ==== Kernel.lean ====
abbrev S4x8x4x16384x128 : Shape := ⟨5, ![4, 8, 4, 16384, 128]⟩
abbrev S2x2048 : Shape := ⟨2, ![2, 2048]⟩
abbrev S1x2048 : Shape := ⟨2, ![1, 2048]⟩
abbrev S1x4096x4096 : Shape := ⟨3, ![1, 4096, 4096]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S2x16x16384x128 : Shape := ⟨4, ![2, 16, 16384, 128]⟩
abbrev S4096x4096 : Shape := ⟨2, ![4096, 4096]⟩
abbrev S1x8x2x2048x128 : Shape := ⟨5, ![1, 8, 2, 2048, 128]⟩
abbrev S2x256 : Shape := ⟨2, ![2, 256]⟩
abbrev S1x256 : Shape := ⟨2, ![1, 256]⟩
abbrev S1x64x4096 : Shape := ⟨3, ![1, 64, 4096]⟩
abbrev S2x2x2048x128 : Shape := ⟨4, ![2, 2, 2048, 128]⟩
abbrev S64x4096 : Shape := ⟨2, ![64, 4096]⟩
abbrev S2x2048x256 : Shape := ⟨3, ![2, 2048, 256]⟩
abbrev S2x2048x128 : Shape := ⟨3, ![2, 2048, 128]⟩
abbrev S2x32x192x128 : Shape := ⟨4, ![2, 32, 192, 128]⟩
abbrev S2x32x128x128 : Shape := ⟨4, ![2, 32, 128, 128]⟩
abbrev S128x128 : Shape := ⟨2, ![128, 128]⟩
abbrev S256x128 : Shape := ⟨2, ![256, 128]⟩
abbrev S1x1x1x2048x128 : Shape := ⟨5, ![1, 1, 1, 2048, 128]⟩
abbrev S1x2048x256 : Shape := ⟨3, ![1, 2048, 256]⟩
abbrev S2048x256 : Shape := ⟨2, ![2048, 256]⟩
abbrev S1x256x128 : Shape := ⟨3, ![1, 256, 128]⟩
abbrev S128 : Shape := ⟨1, ![128]⟩
abbrev S1x128 : Shape := ⟨2, ![1, 128]⟩
abbrev S1x2048x128 : Shape := ⟨3, ![1, 2048, 128]⟩
abbrev S8x128 : Shape := ⟨2, ![8, 128]⟩
abbrev S16x128 : Shape := ⟨2, ![16, 128]⟩
abbrev S16x2048 : Shape := ⟨2, ![16, 2048]⟩
abbrev S16x256 : Shape := ⟨2, ![16, 256]⟩
abbrev S256x256 : Shape := ⟨2, ![256, 256]⟩
abbrev S2x128 : Shape := ⟨2, ![2, 128]⟩
abbrev S64x128 : Shape := ⟨2, ![64, 128]⟩
abbrev S1x64x128 : Shape := ⟨3, ![1, 64, 128]⟩
abbrev S1x32x192x128 : Shape := ⟨4, ![1, 32, 192, 128]⟩
abbrev S32x192x128 : Shape := ⟨3, ![32, 192, 128]⟩
abbrev S1x1x64x128 : Shape := ⟨4, ![1, 1, 64, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S768x128 : Shape := ⟨2, ![768, 128]⟩
abbrev S256x768 : Shape := ⟨2, ![256, 768]⟩
abbrev S1x1x2048x128 : Shape := ⟨4, ![1, 1, 2048, 128]⟩
abbrev S1x1x256x128 : Shape := ⟨4, ![1, 1, 256, 128]⟩
abbrev S1024x128 : Shape := ⟨2, ![1024, 128]⟩
abbrev S256x1024 : Shape := ⟨2, ![256, 1024]⟩
abbrev S512x256 : Shape := ⟨2, ![512, 256]⟩
abbrev S112x256 : Shape := ⟨2, ![112, 256]⟩
abbrev S128x256 : Shape := ⟨2, ![128, 256]⟩
abbrev S1280x256 : Shape := ⟨2, ![1280, 256]⟩
abbrev S256x1280 : Shape := ⟨2, ![256, 1280]⟩
abbrev S768x256 : Shape := ⟨2, ![768, 256]⟩
abbrev S1x32x128x128 : Shape := ⟨4, ![1, 32, 128, 128]⟩
abbrev S32x128x128 : Shape := ⟨3, ![32, 128, 128]⟩
abbrev S1x128x128 : Shape := ⟨3, ![1, 128, 128]⟩
abbrev S1536x256 : Shape := ⟨2, ![1536, 256]⟩
abbrev S256x1536 : Shape := ⟨2, ![256, 1536]⟩
abbrev S1024x256 : Shape := ⟨2, ![1024, 256]⟩
abbrev S1792x256 : Shape := ⟨2, ![1792, 256]⟩
abbrev S256x1792 : Shape := ⟨2, ![256, 1792]⟩
abbrev S256x2048 : Shape := ⟨2, ![256, 2048]⟩
abbrev S1x1x128x128 : Shape := ⟨4, ![1, 1, 128, 128]⟩
abbrev S64x64 : Shape := ⟨2, ![64, 64]⟩
abbrev S1x192x128 : Shape := ⟨3, ![1, 192, 128]⟩
abbrev S192x128 : Shape := ⟨2, ![192, 128]⟩
abbrev S64x192 : Shape := ⟨2, ![64, 192]⟩
abbrev S64 : Shape := ⟨1, ![64]⟩
abbrev S64x1 : Shape := ⟨2, ![64, 1]⟩

abbrev nBuf : Space → Nat
  | .hbm => 29
  | .vmem => 21
  | .smem => 0
  | _ => 0

abbrev bufTy : (tb : Table) → Fin (tcTables nBuf tb) → BufTy
  | .hbm, ⟨0, _⟩ => ⟨S4x8x4x16384x128, .bf16⟩
  | .hbm, ⟨1, _⟩ => ⟨S2x2048, .f32⟩
  | .hbm, ⟨2, _⟩ => ⟨S1x2048, .f32⟩
  | .hbm, ⟨3, _⟩ => ⟨S1x4096x4096, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S2048, .f32⟩
  | .hbm, ⟨13, _⟩ => ⟨S2048x1, .f32⟩
  | .hbm, ⟨14, _⟩ => ⟨S1x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S_, .f32⟩
  | .hbm, ⟨21, _⟩ => ⟨S2048x96, .f32⟩
  | .hbm, ⟨22, _⟩ => ⟨S2048x128, .f32⟩
  | .hbm, ⟨23, _⟩ => ⟨S2048x16, .f32⟩
  | .hbm, ⟨24, _⟩ => ⟨S_, .f32⟩
  | .hbm, ⟨25, _⟩ => ⟨S2048x96, .f32⟩
  | .hbm, ⟨26, _⟩ => ⟨S2048x128, .f32⟩
  | .hbm, ⟨27, _⟩ => ⟨S2x16x16384x128, .bf16⟩
  | .hbm, ⟨28, _⟩ => ⟨S4096x4096, .bf16⟩
  | .local _ .vmem, ⟨0, _⟩ => ⟨S1x8x2x2048x128, .bf16⟩
  | .local _ .vmem, ⟨1, _⟩ => ⟨S1x8x2x2048x128, .bf16⟩
  | .local _ .vmem, ⟨2, _⟩ => ⟨S2048x128, .f32⟩
  | .local _ .vmem, ⟨3, _⟩ => ⟨S2048x128, .f32⟩
  | .local _ .vmem, ⟨4, _⟩ => ⟨S2x256, .f32⟩
  | .local _ .vmem, ⟨5, _⟩ => ⟨S2x256, .f32⟩
  | .local _ .vmem, ⟨6, _⟩ => ⟨S1x256, .f32⟩
  | .local _ .vmem, ⟨7, _⟩ => ⟨S1x256, .f32⟩
  | .local _ .vmem, ⟨8, _⟩ => ⟨S1x64x4096, .f32⟩
  | .local _ .vmem, ⟨9, _⟩ => ⟨S1x64x4096, .f32⟩
  | .local _ .vmem, ⟨10, _⟩ => ⟨S2x2x2048x128, .bf16⟩
  | .local _ .vmem, ⟨11, _⟩ => ⟨S2x2x2048x128, .bf16⟩
  | .local _ .vmem, ⟨12, _⟩ => ⟨S64x4096, .bf16⟩
  | .local _ .vmem, ⟨13, _⟩ => ⟨S64x4096, .bf16⟩
  | .local _ .vmem, ⟨14, _⟩ => ⟨S2x2048x256, .bf16⟩
  | .local _ .vmem, ⟨15, _⟩ => ⟨S2x2048x256, .bf16⟩
  | .local _ .vmem, ⟨16, _⟩ => ⟨S2x2048x128, .bf16⟩
  | .local _ .vmem, ⟨17, _⟩ => ⟨S2x2048x128, .bf16⟩
  | .local _ .vmem, ⟨18, _⟩ => ⟨S2x32x192x128, .bf16⟩
  | .local _ .vmem, ⟨19, _⟩ => ⟨S2x32x128x128, .f32⟩
  | .local _ .vmem, ⟨20, _⟩ => ⟨S2x2048x128, .f32⟩
  | _, _ => ⟨S4x8x4x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, v27.toNat, arg0.toNat, c0_i32_11.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x8x2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x2x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "inv_ln2" => some (((Real.log 2)⁻¹ : ℝ) : EReal)
  | "inv_sqrt_d" => some (((Real.sqrt 128)⁻¹ : ℝ) : EReal)
  | "mask" => some ⊥
  | "qscale" => some (((Real.sqrt 128)⁻¹ * (Real.log 2)⁻¹ : ℝ) : EReal)
  | _ => none
-- ==== ReferenceIdeal.lean ====
abbrev S4x8x4x16384x128 : Shape := ⟨5, ![4, 8, 4, 16384, 128]⟩
abbrev S2x2048 : Shape := ⟨2, ![2, 2048]⟩
abbrev S1x2048 : Shape := ⟨2, ![1, 2048]⟩
abbrev S1x4096x4096 : Shape := ⟨3, ![1, 4096, 4096]⟩
abbrev S8x4x4x16384x128 : Shape := ⟨5, ![8, 4, 4, 16384, 128]⟩
abbrev S8x128x2048x128 : Shape := ⟨4, ![8, 128, 2048, 128]⟩
abbrev S1x128x2048x128 : Shape := ⟨4, ![1, 128, 2048, 128]⟩
abbrev S128x2048x128 : Shape := ⟨3, ![128, 2048, 128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S128x2048x16 : Shape := ⟨3, ![128, 2048, 16]⟩
abbrev S1x2048x16 : Shape := ⟨3, ![1, 2048, 16]⟩
abbrev S128x2048x96 : Shape := ⟨3, ![128, 2048, 96]⟩
abbrev S128x8x256x128 : Shape := ⟨4, ![128, 8, 256, 128]⟩
abbrev S128x8x128 : Shape := ⟨3, ![128, 8, 128]⟩
abbrev S128x2048x8 : Shape := ⟨3, ![128, 2048, 8]⟩
abbrev S8 : Shape := ⟨1, ![8]⟩
abbrev S1x8 : Shape := ⟨2, ![1, 8]⟩
abbrev S2048x8 : Shape := ⟨2, ![2048, 8]⟩
abbrev S1x2048x8 : Shape := ⟨3, ![1, 2048, 8]⟩
abbrev S128x2048x3 : Shape := ⟨3, ![128, 2048, 3]⟩
abbrev S128 : Shape := ⟨1, ![128]⟩
abbrev S128x1x1 : Shape := ⟨3, ![128, 1, 1]⟩
abbrev S128x2048x3x1 : Shape := ⟨4, ![128, 2048, 3, 1]⟩
abbrev S128x2048x3x2 : Shape := ⟨4, ![128, 2048, 3, 2]⟩
abbrev S128x2048x3x256x128 : Shape := ⟨5, ![128, 2048, 3, 256, 128]⟩
abbrev S128x2048x3x256 : Shape := ⟨4, ![128, 2048, 3, 256]⟩
abbrev S3 : Shape := ⟨1, ![3]⟩
abbrev S1x3 : Shape := ⟨2, ![1, 3]⟩
abbrev S2048x3 : Shape := ⟨2, ![2048, 3]⟩
abbrev S1x2048x3x1 : Shape := ⟨4, ![1, 2048, 3, 1]⟩
abbrev S128x8x256x256 : Shape := ⟨4, ![128, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1x256x256 : Shape := ⟨4, ![1, 1, 256, 256]⟩
abbrev S128x2048x256 : Shape := ⟨3, ![128, 2048, 256]⟩
abbrev S128x2048x768 : Shape := ⟨3, ![128, 2048, 768]⟩
abbrev S128x2048x1024 : Shape := ⟨3, ![128, 2048, 1024]⟩
abbrev S128x2048 : Shape := ⟨2, ![128, 2048]⟩
abbrev S128x2048x1 : Shape := ⟨3, ![128, 2048, 1]⟩
abbrev S16x128 : Shape := ⟨2, ![16, 128]⟩
abbrev S16x8x128 : Shape := ⟨3, ![16, 8, 128]⟩
abbrev S128x128 : Shape := ⟨2, ![128, 128]⟩
abbrev S128x1x128 : Shape := ⟨3, ![128, 1, 128]⟩
abbrev S128x32x64x128 : Shape := ⟨4, ![128, 32, 64, 128]⟩
abbrev S128x32x1x128 : Shape := ⟨4, ![128, 32, 1, 128]⟩
abbrev S128x32x64x64 : Shape := ⟨4, ![128, 32, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S128x32x128 : Shape := ⟨3, ![128, 32, 128]⟩
abbrev S128x128x128 : Shape := ⟨3, ![128, 128, 128]⟩
abbrev S128x1x64x128 : Shape := ⟨4, ![128, 1, 64, 128]⟩
abbrev S128x64x128 : Shape := ⟨3, ![128, 64, 128]⟩
abbrev S128x128x1 : Shape := ⟨3, ![128, 128, 1]⟩
abbrev S128x16x64x128 : Shape := ⟨4, ![128, 16, 64, 128]⟩
abbrev S2x128x2048x128 : Shape := ⟨4, ![2, 128, 2048, 128]⟩
abbrev S2x16x16384x128 : Shape := ⟨4, ![2, 16, 16384, 128]⟩
abbrev S4096x4096 : Shape := ⟨2, ![4096, 4096]⟩

abbrev nBuf : Space → Nat
  | .hbm => 869
  | .vmem => 0
  | .smem => 0
  | _ => 0

abbrev hbmTy0_0 (i : Nat) : BufTy := match i % 128 with
  | 0 => ⟨S4x8x4x16384x128, .bf16⟩
  | 1 => ⟨S2x2048, .f32⟩
  | 2 => ⟨S1x2048, .f32⟩
  | 3 => ⟨S1x4096x4096, .f32⟩
  | 4 => ⟨S4x8x4x16384x128, .f32⟩
  | 5 => ⟨S8x4x4x16384x128, .f32⟩
  | 6 => ⟨S8x128x2048x128, .f32⟩
  | 7 => ⟨S1x128x2048x128, .f32⟩
  | 8 => ⟨S128x2048x128, .f32⟩
  | 9 => ⟨S1x128x2048x128, .f32⟩
  | 10 => ⟨S128x2048x128, .f32⟩
  | 11 => ⟨S1x128x2048x128, .f32⟩
  | 12 => ⟨S128x2048x128, .f32⟩
  | 13 => ⟨S1x128x2048x128, .f32⟩
  | 14 => ⟨S128x2048x128, .f32⟩
  | 15 => ⟨S1x128x2048x128, .f32⟩
  | 16 => ⟨S128x2048x128, .f32⟩
  | 17 => ⟨S1x128x2048x128, .f32⟩
  | 18 => ⟨S128x2048x128, .f32⟩
  | 19 => ⟨S1x128x2048x128, .f32⟩
  | 20 => ⟨S128x2048x128, .f32⟩
  | 21 => ⟨S1x128x2048x128, .f32⟩
  | 22 => ⟨S128x2048x128, .f32⟩
  | 23 => ⟨S2048, .i32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S2048, .f32⟩
  | 33 => ⟨S2048x1, .f32⟩
  | 34 => ⟨S1x16, .f32⟩
  | 35 => ⟨S2048x16, .f32⟩
  | 36 => ⟨S2048x16, .f32⟩
  | 37 => ⟨S2048x16, .f32⟩
  | 38 => ⟨S2048x16, .f32⟩
  | 39 => ⟨S2048x16, .f32⟩
  | 40 => ⟨S128x2048x16, .f32⟩
  | 41 => ⟨S128x2048x16, .f32⟩
  | 42 => ⟨S1x2048x16, .f32⟩
  | 43 => ⟨S128x2048x16, .f32⟩
  | 44 => ⟨S128x2048x16, .f32⟩
  | 45 => ⟨S1x2048x16, .f32⟩
  | 46 => ⟨S128x2048x16, .f32⟩
  | 47 => ⟨S128x2048x16, .f32⟩
  | 48 => ⟨S128x2048x16, .f32⟩
  | 49 => ⟨S1x2048x16, .f32⟩
  | 50 => ⟨S128x2048x16, .f32⟩
  | 51 => ⟨S128x2048x16, .f32⟩
  | 52 => ⟨S1x2048x16, .f32⟩
  | 53 => ⟨S128x2048x16, .f32⟩
  | 54 => ⟨S128x2048x16, .f32⟩
  | 55 => ⟨S128x2048x16, .f32⟩
  | 56 => ⟨S128x2048x96, .f32⟩
  | 57 => ⟨S128x2048x128, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S2048, .f32⟩
  | 67 => ⟨S2048x1, .f32⟩
  | 68 => ⟨S1x16, .f32⟩
  | 69 => ⟨S2048x16, .f32⟩
  | 70 => ⟨S2048x16, .f32⟩
  | 71 => ⟨S2048x16, .f32⟩
  | 72 => ⟨S2048x16, .f32⟩
  | 73 => ⟨S2048x16, .f32⟩
  | 74 => ⟨S128x2048x16, .f32⟩
  | 75 => ⟨S128x2048x16, .f32⟩
  | 76 => ⟨S1x2048x16, .f32⟩
  | 77 => ⟨S128x2048x16, .f32⟩
  | 78 => ⟨S128x2048x16, .f32⟩
  | 79 => ⟨S1x2048x16, .f32⟩
  | 80 => ⟨S128x2048x16, .f32⟩
  | 81 => ⟨S128x2048x16, .f32⟩
  | 82 => ⟨S128x2048x16, .f32⟩
  | 83 => ⟨S1x2048x16, .f32⟩
  | 84 => ⟨S128x2048x16, .f32⟩
  | 85 => ⟨S128x2048x16, .f32⟩
  | 86 => ⟨S1x2048x16, .f32⟩
  | 87 => ⟨S128x2048x16, .f32⟩
  | 88 => ⟨S128x2048x16, .f32⟩
  | 89 => ⟨S128x2048x16, .f32⟩
  | 90 => ⟨S128x2048x96, .f32⟩
  | 91 => ⟨S128x2048x128, .f32⟩
  | 92 => ⟨S128x8x256x128, .f32⟩
  | 93 => ⟨S128x8x256x128, .f32⟩
  | 94 => ⟨S128x8x256x128, .f32⟩
  | 95 => ⟨S_, .f32⟩
  | 96 => ⟨S128x8x128, .f32⟩
  | 97 => ⟨S_, .f32⟩
  | 98 => ⟨S128x8x128, .f32⟩
  | 99 => ⟨S128x8x128, .f32⟩
  | 100 => ⟨S2048, .i32⟩
  | 101 => ⟨S_, .i32⟩
  | 102 => ⟨S_, .i32⟩
  | 103 => ⟨S2048, .i32⟩
  | 104 => ⟨S2048, .i32⟩
  | 105 => ⟨S2048, .i32⟩
  | 106 => ⟨S_, .i32⟩
  | 107 => ⟨S2048, .i32⟩
  | 108 => ⟨S2048, .i1⟩
  | 109 => ⟨S2048, .i32⟩
  | 110 => ⟨S2048, .i32⟩
  | 111 => ⟨S_, .i32⟩
  | 112 => ⟨S2048, .i32⟩
  | 113 => ⟨S2048, .i1⟩
  | 114 => ⟨S2048, .i1⟩
  | 115 => ⟨S_, .i32⟩
  | 116 => ⟨S2048, .i32⟩
  | 117 => ⟨S2048, .i32⟩
  | 118 => ⟨S2048, .i32⟩
  | 119 => ⟨S128x2048x8, .f32⟩
  | 120 => ⟨S8, .i32⟩
  | 121 => ⟨S1x8, .i32⟩
  | 122 => ⟨S2048x1, .i32⟩
  | 123 => ⟨S2048x8, .i32⟩
  | 124 => ⟨S2048x8, .i32⟩
  | 125 => ⟨S2048x8, .i1⟩
  | 126 => ⟨S1x2048x8, .i1⟩
  | 127 => ⟨S_, .f32⟩
  | _ => ⟨S4x8x4x16384x128, .bf16⟩

abbrev hbmTy0_1 (i : Nat) : BufTy := match i % 128 with
  | 0 => ⟨S_, .f32⟩
  | 1 => ⟨S128x2048x8, .i1⟩
  | 2 => ⟨S128x2048x8, .f32⟩
  | 3 => ⟨S128x2048x8, .f32⟩
  | 4 => ⟨S128x2048x3, .f32⟩
  | 5 => ⟨S128x2048x3, .i32⟩
  | 6 => ⟨S128, .i32⟩
  | 7 => ⟨S128x1x1, .i32⟩
  | 8 => ⟨S_, .i32⟩
  | 9 => ⟨S128x1x1, .i32⟩
  | 10 => ⟨S128x1x1, .i1⟩
  | 11 => ⟨S_, .i32⟩
  | 12 => ⟨S128x1x1, .i32⟩
  | 13 => ⟨S128x1x1, .i32⟩
  | 14 => ⟨S128x1x1, .i32⟩
  | 15 => ⟨S_, .i32⟩
  | 16 => ⟨S128x2048x3, .i32⟩
  | 17 => ⟨S128x2048x3, .i1⟩
  | 18 => ⟨S_, .i32⟩
  | 19 => ⟨S128x2048x3, .i32⟩
  | 20 => ⟨S128x2048x3, .i32⟩
  | 21 => ⟨S128x2048x3, .i32⟩
  | 22 => ⟨S128x2048x3, .i32⟩
  | 23 => ⟨S128x2048x3x1, .i32⟩
  | 24 => ⟨S128x2048x3x1, .i32⟩
  | 25 => ⟨S128x2048x3x2, .i32⟩
  | 26 => ⟨S128x2048x3x256x128, .f32⟩
  | 27 => ⟨S_, .i32⟩
  | 28 => ⟨S128x1x1, .i32⟩
  | 29 => ⟨S128x1x1, .i1⟩
  | 30 => ⟨S_, .i32⟩
  | 31 => ⟨S128x1x1, .i32⟩
  | 32 => ⟨S128x1x1, .i32⟩
  | 33 => ⟨S128x1x1, .i32⟩
  | 34 => ⟨S_, .i32⟩
  | 35 => ⟨S128x2048x3, .i32⟩
  | 36 => ⟨S128x2048x3, .i1⟩
  | 37 => ⟨S_, .i32⟩
  | 38 => ⟨S128x2048x3, .i32⟩
  | 39 => ⟨S128x2048x3, .i32⟩
  | 40 => ⟨S128x2048x3, .i32⟩
  | 41 => ⟨S128x2048x3, .i32⟩
  | 42 => ⟨S128x2048x3x1, .i32⟩
  | 43 => ⟨S128x2048x3x1, .i32⟩
  | 44 => ⟨S128x2048x3x2, .i32⟩
  | 45 => ⟨S128x2048x3x256x128, .f32⟩
  | 46 => ⟨S128x2048x3x256, .f32⟩
  | 47 => ⟨S_, .f32⟩
  | 48 => ⟨S128x2048x3x256, .f32⟩
  | 49 => ⟨S128x2048x3x256, .f32⟩
  | 50 => ⟨S3, .i32⟩
  | 51 => ⟨S1x3, .i32⟩
  | 52 => ⟨S2048x1, .i32⟩
  | 53 => ⟨S2048x3, .i32⟩
  | 54 => ⟨S2048x3, .i32⟩
  | 55 => ⟨S2048x3, .i1⟩
  | 56 => ⟨S1x2048x3x1, .i1⟩
  | 57 => ⟨S_, .f32⟩
  | 58 => ⟨S_, .f32⟩
  | 59 => ⟨S128x2048x3x256, .i1⟩
  | 60 => ⟨S128x2048x3x256, .f32⟩
  | 61 => ⟨S128x2048x3x256, .f32⟩
  | 62 => ⟨S128x8x256x256, .f32⟩
  | 63 => ⟨S_, .f32⟩
  | 64 => ⟨S128x8x256x256, .f32⟩
  | 65 => ⟨S128x8x256x256, .f32⟩
  | 66 => ⟨S256, .i32⟩
  | 67 => ⟨S1x256, .i32⟩
  | 68 => ⟨S256, .i32⟩
  | 69 => ⟨S256x1, .i32⟩
  | 70 => ⟨S256x256, .i32⟩
  | 71 => ⟨S256x256, .i32⟩
  | 72 => ⟨S256x256, .i1⟩
  | 73 => ⟨S1x1x256x256, .i1⟩
  | 74 => ⟨S_, .f32⟩
  | 75 => ⟨S_, .f32⟩
  | 76 => ⟨S128x8x256x256, .i1⟩
  | 77 => ⟨S128x8x256x256, .f32⟩
  | 78 => ⟨S128x8x256x256, .f32⟩
  | 79 => ⟨S128x2048x256, .f32⟩
  | 80 => ⟨S128x2048x768, .f32⟩
  | 81 => ⟨S128x2048x1024, .f32⟩
  | 82 => ⟨S_, .f32⟩
  | 83 => ⟨S128x2048, .f32⟩
  | 84 => ⟨S_, .f32⟩
  | 85 => ⟨S128x2048, .f32⟩
  | 86 => ⟨S128x2048, .f32⟩
  | 87 => ⟨S128x2048x1, .f32⟩
  | 88 => ⟨S128x2048x1024, .f32⟩
  | 89 => ⟨S128x2048x1024, .f32⟩
  | 90 => ⟨S128x2048x1024, .f32⟩
  | 91 => ⟨S_, .f32⟩
  | 92 => ⟨S128x2048, .f32⟩
  | 93 => ⟨S128x2048x1, .f32⟩
  | 94 => ⟨S128x2048x1024, .f32⟩
  | 95 => ⟨S128x2048x1024, .f32⟩
  | 96 => ⟨S128x2048x768, .f32⟩
  | 97 => ⟨S128x2048x3x256, .f32⟩
  | 98 => ⟨S128x2048x256, .f32⟩
  | 99 => ⟨S128x8x256x256, .f32⟩
  | 100 => ⟨S128x2048x128, .f32⟩
  | 101 => ⟨S128x8x256x128, .f32⟩
  | 102 => ⟨S128x2048x128, .f32⟩
  | 103 => ⟨S128x2048x128, .f32⟩
  | 104 => ⟨S128x2048x128, .f32⟩
  | 105 => ⟨S128x2048x128, .f32⟩
  | 106 => ⟨S_, .f32⟩
  | 107 => ⟨S128x2048x128, .f32⟩
  | 108 => ⟨S128x2048x128, .f32⟩
  | 109 => ⟨S_, .f32⟩
  | 110 => ⟨S128x2048x128, .f32⟩
  | 111 => ⟨S128x2048x128, .f32⟩
  | 112 => ⟨S128x2048x128, .f32⟩
  | 113 => ⟨S128x2048x128, .f32⟩
  | 114 => ⟨S_, .f32⟩
  | 115 => ⟨S2048, .f32⟩
  | 116 => ⟨S_, .f32⟩
  | 117 => ⟨S2048, .f32⟩
  | 118 => ⟨S2048, .f32⟩
  | 119 => ⟨S1x2048, .f32⟩
  | 120 => ⟨S2x2048, .f32⟩
  | 121 => ⟨S2x2048, .f32⟩
  | 122 => ⟨S2x2048, .f32⟩
  | 123 => ⟨S_, .f32⟩
  | 124 => ⟨S2048, .f32⟩
  | 125 => ⟨S1x2048, .f32⟩
  | 126 => ⟨S2x2048, .f32⟩
  | 127 => ⟨S2x2048, .f32⟩
  | _ => ⟨S4x8x4x16384x128, .bf16⟩

abbrev hbmTy0_2 (i : Nat) : BufTy := match i % 128 with
  | 0 => ⟨S_, .f32⟩
  | 1 => ⟨S_, .f32⟩
  | 2 => ⟨S2x2048, .f32⟩
  | 3 => ⟨S1x2048, .f32⟩
  | 4 => ⟨S2048, .f32⟩
  | 5 => ⟨S16x128, .f32⟩
  | 6 => ⟨S16x8x128, .f32⟩
  | 7 => ⟨S128x128, .f32⟩
  | 8 => ⟨S128x1x128, .f32⟩
  | 9 => ⟨S_, .f32⟩
  | 10 => ⟨S128x1x128, .f32⟩
  | 11 => ⟨S128x1x128, .f32⟩
  | 12 => ⟨S128x2048x128, .f32⟩
  | 13 => ⟨S128x2048x128, .f32⟩
  | 14 => ⟨S_, .f32⟩
  | 15 => ⟨S128x2048x128, .f32⟩
  | 16 => ⟨S128x2048x128, .f32⟩
  | 17 => ⟨S_, .f32⟩
  | 18 => ⟨S128x2048x128, .f32⟩
  | 19 => ⟨S128x2048x128, .f32⟩
  | 20 => ⟨S128x2048x128, .f32⟩
  | 21 => ⟨S128x2048x128, .f32⟩
  | 22 => ⟨S128x2048x128, .f32⟩
  | 23 => ⟨S128x2048x128, .f32⟩
  | 24 => ⟨S128x2048x128, .f32⟩
  | 25 => ⟨S_, .f32⟩
  | 26 => ⟨S128x1x128, .f32⟩
  | 27 => ⟨S128x1x128, .f32⟩
  | 28 => ⟨S128x2048x128, .f32⟩
  | 29 => ⟨S128x2048x128, .f32⟩
  | 30 => ⟨S128x2048x128, .f32⟩
  | 31 => ⟨S_, .f32⟩
  | 32 => ⟨S128x2048x128, .f32⟩
  | 33 => ⟨S128x2048x128, .f32⟩
  | 34 => ⟨S_, .f32⟩
  | 35 => ⟨S128x2048x128, .f32⟩
  | 36 => ⟨S128x2048x128, .f32⟩
  | 37 => ⟨S128x2048x128, .f32⟩
  | 38 => ⟨S128x2048x128, .f32⟩
  | 39 => ⟨S128x2048x128, .f32⟩
  | 40 => ⟨S128x2048x128, .f32⟩
  | 41 => ⟨S_, .f32⟩
  | 42 => ⟨S128x2048x128, .f32⟩
  | 43 => ⟨S128x2048x128, .f32⟩
  | 44 => ⟨S_, .f32⟩
  | 45 => ⟨S128x2048x128, .f32⟩
  | 46 => ⟨S128x2048x128, .f32⟩
  | 47 => ⟨S128x2048x128, .f32⟩
  | 48 => ⟨S_, .f32⟩
  | 49 => ⟨S128x2048x128, .f32⟩
  | 50 => ⟨S128x2048x128, .f32⟩
  | 51 => ⟨S128x32x64x128, .f32⟩
  | 52 => ⟨S128x32x64x128, .f32⟩
  | 53 => ⟨S128x32x64x128, .f32⟩
  | 54 => ⟨S128x32x64x128, .f32⟩
  | 55 => ⟨S_, .f32⟩
  | 56 => ⟨S_, .f32⟩
  | 57 => ⟨S128x32x64x128, .f32⟩
  | 58 => ⟨S128x32x1x128, .f32⟩
  | 59 => ⟨S128x32x1x128, .f32⟩
  | 60 => ⟨S128x32x64x128, .f32⟩
  | 61 => ⟨S128x32x64x128, .f32⟩
  | 62 => ⟨S128x32x64x128, .f32⟩
  | 63 => ⟨S128x32x64x128, .f32⟩
  | 64 => ⟨S128x32x64x128, .f32⟩
  | 65 => ⟨S128x32x64x128, .f32⟩
  | 66 => ⟨S128x32x64x128, .f32⟩
  | 67 => ⟨S128x32x64x128, .f32⟩
  | 68 => ⟨S128x32x64x64, .f32⟩
  | 69 => ⟨S64, .i32⟩
  | 70 => ⟨S64x1, .i32⟩
  | 71 => ⟨S64, .i32⟩
  | 72 => ⟨S1x64, .i32⟩
  | 73 => ⟨S64x64, .i32⟩
  | 74 => ⟨S64x64, .i32⟩
  | 75 => ⟨S64x64, .i1⟩
  | 76 => ⟨S_, .f32⟩
  | 77 => ⟨S_, .f32⟩
  | 78 => ⟨S128x32x64x64, .i1⟩
  | 79 => ⟨S128x32x64x64, .f32⟩
  | 80 => ⟨S128x32x64x64, .f32⟩
  | 81 => ⟨S128x32x64x128, .f32⟩
  | 82 => ⟨S128x32x64x128, .f32⟩
  | 83 => ⟨S128x32x64x128, .f32⟩
  | 84 => ⟨S128x32x64x128, .f32⟩
  | 85 => ⟨S128x32x64x128, .f32⟩
  | 86 => ⟨S128x32x64x128, .f32⟩
  | 87 => ⟨S128x32x64x128, .f32⟩
  | 88 => ⟨S128x32x128, .f32⟩
  | 89 => ⟨S128x32x128, .f32⟩
  | 90 => ⟨S_, .f32⟩
  | 91 => ⟨S128x128x128, .f32⟩
  | 92 => ⟨S128x1x64x128, .f32⟩
  | 93 => ⟨S128x64x128, .f32⟩
  | 94 => ⟨S128x64x128, .f32⟩
  | 95 => ⟨S128x1x128, .f32⟩
  | 96 => ⟨S128x128, .f32⟩
  | 97 => ⟨S128x128x1, .f32⟩
  | 98 => ⟨S128x128x128, .f32⟩
  | 99 => ⟨S128x128x128, .f32⟩
  | 100 => ⟨S128x1x64x128, .f32⟩
  | 101 => ⟨S128x64x128, .f32⟩
  | 102 => ⟨S128x1x64x128, .f32⟩
  | 103 => ⟨S128x64x128, .f32⟩
  | 104 => ⟨S128x128x128, .f32⟩
  | 105 => ⟨S128x128x128, .f32⟩
  | 106 => ⟨S128x1x64x128, .f32⟩
  | 107 => ⟨S128x64x128, .f32⟩
  | 108 => ⟨S128x64x128, .f32⟩
  | 109 => ⟨S128x1x128, .f32⟩
  | 110 => ⟨S128x128, .f32⟩
  | 111 => ⟨S128x128x1, .f32⟩
  | 112 => ⟨S128x128x128, .f32⟩
  | 113 => ⟨S128x128x128, .f32⟩
  | 114 => ⟨S128x1x64x128, .f32⟩
  | 115 => ⟨S128x64x128, .f32⟩
  | 116 => ⟨S128x1x64x128, .f32⟩
  | 117 => ⟨S128x64x128, .f32⟩
  | 118 => ⟨S128x128x128, .f32⟩
  | 119 => ⟨S128x128x128, .f32⟩
  | 120 => ⟨S128x1x64x128, .f32⟩
  | 121 => ⟨S128x64x128, .f32⟩
  | 122 => ⟨S128x64x128, .f32⟩
  | 123 => ⟨S128x1x128, .f32⟩
  | 124 => ⟨S128x128, .f32⟩
  | 125 => ⟨S128x128x1, .f32⟩
  | 126 => ⟨S128x128x128, .f32⟩
  | 127 => ⟨S128x128x128, .f32⟩
  | _ => ⟨S4x8x4x16384x128, .bf16⟩

abbrev hbmTy0_3 (i : Nat) : BufTy := match i % 128 with
  | 0 => ⟨S128x1x64x128, .f32⟩
  | 1 => ⟨S128x64x128, .f32⟩
  | 2 => ⟨S128x1x64x128, .f32⟩
  | 3 => ⟨S128x64x128, .f32⟩
  | 4 => ⟨S128x128x128, .f32⟩
  | 5 => ⟨S128x128x128, .f32⟩
  | 6 => ⟨S128x1x64x128, .f32⟩
  | 7 => ⟨S128x64x128, .f32⟩
  | 8 => ⟨S128x64x128, .f32⟩
  | 9 => ⟨S128x1x128, .f32⟩
  | 10 => ⟨S128x128, .f32⟩
  | 11 => ⟨S128x128x1, .f32⟩
  | 12 => ⟨S128x128x128, .f32⟩
  | 13 => ⟨S128x128x128, .f32⟩
  | 14 => ⟨S128x1x64x128, .f32⟩
  | 15 => ⟨S128x64x128, .f32⟩
  | 16 => ⟨S128x1x64x128, .f32⟩
  | 17 => ⟨S128x64x128, .f32⟩
  | 18 => ⟨S128x128x128, .f32⟩
  | 19 => ⟨S128x128x128, .f32⟩
  | 20 => ⟨S128x1x64x128, .f32⟩
  | 21 => ⟨S128x64x128, .f32⟩
  | 22 => ⟨S128x64x128, .f32⟩
  | 23 => ⟨S128x1x128, .f32⟩
  | 24 => ⟨S128x128, .f32⟩
  | 25 => ⟨S128x128x1, .f32⟩
  | 26 => ⟨S128x128x128, .f32⟩
  | 27 => ⟨S128x128x128, .f32⟩
  | 28 => ⟨S128x1x64x128, .f32⟩
  | 29 => ⟨S128x64x128, .f32⟩
  | 30 => ⟨S128x1x64x128, .f32⟩
  | 31 => ⟨S128x64x128, .f32⟩
  | 32 => ⟨S128x128x128, .f32⟩
  | 33 => ⟨S128x128x128, .f32⟩
  | 34 => ⟨S128x1x64x128, .f32⟩
  | 35 => ⟨S128x64x128, .f32⟩
  | 36 => ⟨S128x64x128, .f32⟩
  | 37 => ⟨S128x1x128, .f32⟩
  | 38 => ⟨S128x128, .f32⟩
  | 39 => ⟨S128x128x1, .f32⟩
  | 40 => ⟨S128x128x128, .f32⟩
  | 41 => ⟨S128x128x128, .f32⟩
  | 42 => ⟨S128x1x64x128, .f32⟩
  | 43 => ⟨S128x64x128, .f32⟩
  | 44 => ⟨S128x1x64x128, .f32⟩
  | 45 => ⟨S128x64x128, .f32⟩
  | 46 => ⟨S128x128x128, .f32⟩
  | 47 => ⟨S128x128x128, .f32⟩
  | 48 => ⟨S128x1x64x128, .f32⟩
  | 49 => ⟨S128x64x128, .f32⟩
  | 50 => ⟨S128x64x128, .f32⟩
  | 51 => ⟨S128x1x128, .f32⟩
  | 52 => ⟨S128x128, .f32⟩
  | 53 => ⟨S128x128x1, .f32⟩
  | 54 => ⟨S128x128x128, .f32⟩
  | 55 => ⟨S128x128x128, .f32⟩
  | 56 => ⟨S128x1x64x128, .f32⟩
  | 57 => ⟨S128x64x128, .f32⟩
  | 58 => ⟨S128x1x64x128, .f32⟩
  | 59 => ⟨S128x64x128, .f32⟩
  | 60 => ⟨S128x128x128, .f32⟩
  | 61 => ⟨S128x128x128, .f32⟩
  | 62 => ⟨S128x1x64x128, .f32⟩
  | 63 => ⟨S128x64x128, .f32⟩
  | 64 => ⟨S128x64x128, .f32⟩
  | 65 => ⟨S128x1x128, .f32⟩
  | 66 => ⟨S128x128, .f32⟩
  | 67 => ⟨S128x128x1, .f32⟩
  | 68 => ⟨S128x128x128, .f32⟩
  | 69 => ⟨S128x128x128, .f32⟩
  | 70 => ⟨S128x1x64x128, .f32⟩
  | 71 => ⟨S128x64x128, .f32⟩
  | 72 => ⟨S128x1x64x128, .f32⟩
  | 73 => ⟨S128x64x128, .f32⟩
  | 74 => ⟨S128x128x128, .f32⟩
  | 75 => ⟨S128x128x128, .f32⟩
  | 76 => ⟨S128x1x64x128, .f32⟩
  | 77 => ⟨S128x64x128, .f32⟩
  | 78 => ⟨S128x64x128, .f32⟩
  | 79 => ⟨S128x1x128, .f32⟩
  | 80 => ⟨S128x128, .f32⟩
  | 81 => ⟨S128x128x1, .f32⟩
  | 82 => ⟨S128x128x128, .f32⟩
  | 83 => ⟨S128x128x128, .f32⟩
  | 84 => ⟨S128x1x64x128, .f32⟩
  | 85 => ⟨S128x64x128, .f32⟩
  | 86 => ⟨S128x1x64x128, .f32⟩
  | 87 => ⟨S128x64x128, .f32⟩
  | 88 => ⟨S128x128x128, .f32⟩
  | 89 => ⟨S128x128x128, .f32⟩
  | 90 => ⟨S128x1x64x128, .f32⟩
  | 91 => ⟨S128x64x128, .f32⟩
  | 92 => ⟨S128x64x128, .f32⟩
  | 93 => ⟨S128x1x128, .f32⟩
  | 94 => ⟨S128x128, .f32⟩
  | 95 => ⟨S128x128x1, .f32⟩
  | 96 => ⟨S128x128x128, .f32⟩
  | 97 => ⟨S128x128x128, .f32⟩
  | 98 => ⟨S128x1x64x128, .f32⟩
  | 99 => ⟨S128x64x128, .f32⟩
  | 100 => ⟨S128x1x64x128, .f32⟩
  | 101 => ⟨S128x64x128, .f32⟩
  | 102 => ⟨S128x128x128, .f32⟩
  | 103 => ⟨S128x128x128, .f32⟩
  | 104 => ⟨S128x1x64x128, .f32⟩
  | 105 => ⟨S128x64x128, .f32⟩
  | 106 => ⟨S128x64x128, .f32⟩
  | 107 => ⟨S128x1x128, .f32⟩
  | 108 => ⟨S128x128, .f32⟩
  | 109 => ⟨S128x128x1, .f32⟩
  | 110 => ⟨S128x128x128, .f32⟩
  | 111 => ⟨S128x128x128, .f32⟩
  | 112 => ⟨S128x1x64x128, .f32⟩
  | 113 => ⟨S128x64x128, .f32⟩
  | 114 => ⟨S128x1x64x128, .f32⟩
  | 115 => ⟨S128x64x128, .f32⟩
  | 116 => ⟨S128x128x128, .f32⟩
  | 117 => ⟨S128x128x128, .f32⟩
  | 118 => ⟨S128x1x64x128, .f32⟩
  | 119 => ⟨S128x64x128, .f32⟩
  | 120 => ⟨S128x64x128, .f32⟩
  | 121 => ⟨S128x1x128, .f32⟩
  | 122 => ⟨S128x128, .f32⟩
  | 123 => ⟨S128x128x1, .f32⟩
  | 124 => ⟨S128x128x128, .f32⟩
  | 125 => ⟨S128x128x128, .f32⟩
  | 126 => ⟨S128x1x64x128, .f32⟩
  | 127 => ⟨S128x64x128, .f32⟩
  | _ => ⟨S4x8x4x16384x128, .bf16⟩

abbrev hbmTy0_4 (i : Nat) : BufTy := match i % 128 with
  | 0 => ⟨S128x1x64x128, .f32⟩
  | 1 => ⟨S128x64x128, .f32⟩
  | 2 => ⟨S128x128x128, .f32⟩
  | 3 => ⟨S128x128x128, .f32⟩
  | 4 => ⟨S128x1x64x128, .f32⟩
  | 5 => ⟨S128x64x128, .f32⟩
  | 6 => ⟨S128x64x128, .f32⟩
  | 7 => ⟨S128x1x128, .f32⟩
  | 8 => ⟨S128x128, .f32⟩
  | 9 => ⟨S128x128x1, .f32⟩
  | 10 => ⟨S128x128x128, .f32⟩
  | 11 => ⟨S128x128x128, .f32⟩
  | 12 => ⟨S128x1x64x128, .f32⟩
  | 13 => ⟨S128x64x128, .f32⟩
  | 14 => ⟨S128x1x64x128, .f32⟩
  | 15 => ⟨S128x64x128, .f32⟩
  | 16 => ⟨S128x128x128, .f32⟩
  | 17 => ⟨S128x128x128, .f32⟩
  | 18 => ⟨S128x1x64x128, .f32⟩
  | 19 => ⟨S128x64x128, .f32⟩
  | 20 => ⟨S128x64x128, .f32⟩
  | 21 => ⟨S128x1x128, .f32⟩
  | 22 => ⟨S128x128, .f32⟩
  | 23 => ⟨S128x128x1, .f32⟩
  | 24 => ⟨S128x128x128, .f32⟩
  | 25 => ⟨S128x128x128, .f32⟩
  | 26 => ⟨S128x1x64x128, .f32⟩
  | 27 => ⟨S128x64x128, .f32⟩
  | 28 => ⟨S128x1x64x128, .f32⟩
  | 29 => ⟨S128x64x128, .f32⟩
  | 30 => ⟨S128x128x128, .f32⟩
  | 31 => ⟨S128x128x128, .f32⟩
  | 32 => ⟨S128x1x64x128, .f32⟩
  | 33 => ⟨S128x64x128, .f32⟩
  | 34 => ⟨S128x64x128, .f32⟩
  | 35 => ⟨S128x1x128, .f32⟩
  | 36 => ⟨S128x128, .f32⟩
  | 37 => ⟨S128x128x1, .f32⟩
  | 38 => ⟨S128x128x128, .f32⟩
  | 39 => ⟨S128x128x128, .f32⟩
  | 40 => ⟨S128x1x64x128, .f32⟩
  | 41 => ⟨S128x64x128, .f32⟩
  | 42 => ⟨S128x1x64x128, .f32⟩
  | 43 => ⟨S128x64x128, .f32⟩
  | 44 => ⟨S128x128x128, .f32⟩
  | 45 => ⟨S128x128x128, .f32⟩
  | 46 => ⟨S128x1x64x128, .f32⟩
  | 47 => ⟨S128x64x128, .f32⟩
  | 48 => ⟨S128x64x128, .f32⟩
  | 49 => ⟨S128x1x128, .f32⟩
  | 50 => ⟨S128x128, .f32⟩
  | 51 => ⟨S128x128x1, .f32⟩
  | 52 => ⟨S128x128x128, .f32⟩
  | 53 => ⟨S128x128x128, .f32⟩
  | 54 => ⟨S128x1x64x128, .f32⟩
  | 55 => ⟨S128x64x128, .f32⟩
  | 56 => ⟨S128x1x64x128, .f32⟩
  | 57 => ⟨S128x64x128, .f32⟩
  | 58 => ⟨S128x128x128, .f32⟩
  | 59 => ⟨S128x128x128, .f32⟩
  | 60 => ⟨S128x1x64x128, .f32⟩
  | 61 => ⟨S128x64x128, .f32⟩
  | 62 => ⟨S128x64x128, .f32⟩
  | 63 => ⟨S128x1x128, .f32⟩
  | 64 => ⟨S128x128, .f32⟩
  | 65 => ⟨S128x128x1, .f32⟩
  | 66 => ⟨S128x128x128, .f32⟩
  | 67 => ⟨S128x128x128, .f32⟩
  | 68 => ⟨S128x1x64x128, .f32⟩
  | 69 => ⟨S128x64x128, .f32⟩
  | 70 => ⟨S128x1x64x128, .f32⟩
  | 71 => ⟨S128x64x128, .f32⟩
  | 72 => ⟨S128x128x128, .f32⟩
  | 73 => ⟨S128x128x128, .f32⟩
  | 74 => ⟨S128x1x64x128, .f32⟩
  | 75 => ⟨S128x64x128, .f32⟩
  | 76 => ⟨S128x64x128, .f32⟩
  | 77 => ⟨S128x1x128, .f32⟩
  | 78 => ⟨S128x128, .f32⟩
  | 79 => ⟨S128x128x1, .f32⟩
  | 80 => ⟨S128x128x128, .f32⟩
  | 81 => ⟨S128x128x128, .f32⟩
  | 82 => ⟨S128x1x64x128, .f32⟩
  | 83 => ⟨S128x64x128, .f32⟩
  | 84 => ⟨S128x1x64x128, .f32⟩
  | 85 => ⟨S128x64x128, .f32⟩
  | 86 => ⟨S128x128x128, .f32⟩
  | 87 => ⟨S128x128x128, .f32⟩
  | 88 => ⟨S128x1x64x128, .f32⟩
  | 89 => ⟨S128x64x128, .f32⟩
  | 90 => ⟨S128x64x128, .f32⟩
  | 91 => ⟨S128x1x128, .f32⟩
  | 92 => ⟨S128x128, .f32⟩
  | 93 => ⟨S128x128x1, .f32⟩
  | 94 => ⟨S128x128x128, .f32⟩
  | 95 => ⟨S128x128x128, .f32⟩
  | 96 => ⟨S128x1x64x128, .f32⟩
  | 97 => ⟨S128x64x128, .f32⟩
  | 98 => ⟨S128x1x64x128, .f32⟩
  | 99 => ⟨S128x64x128, .f32⟩
  | 100 => ⟨S128x128x128, .f32⟩
  | 101 => ⟨S128x128x128, .f32⟩
  | 102 => ⟨S128x1x64x128, .f32⟩
  | 103 => ⟨S128x64x128, .f32⟩
  | 104 => ⟨S128x64x128, .f32⟩
  | 105 => ⟨S128x1x128, .f32⟩
  | 106 => ⟨S128x128, .f32⟩
  | 107 => ⟨S128x128x1, .f32⟩
  | 108 => ⟨S128x128x128, .f32⟩
  | 109 => ⟨S128x128x128, .f32⟩
  | 110 => ⟨S128x1x64x128, .f32⟩
  | 111 => ⟨S128x64x128, .f32⟩
  | 112 => ⟨S128x1x64x128, .f32⟩
  | 113 => ⟨S128x64x128, .f32⟩
  | 114 => ⟨S128x128x128, .f32⟩
  | 115 => ⟨S128x128x128, .f32⟩
  | 116 => ⟨S128x1x64x128, .f32⟩
  | 117 => ⟨S128x64x128, .f32⟩
  | 118 => ⟨S128x64x128, .f32⟩
  | 119 => ⟨S128x1x128, .f32⟩
  | 120 => ⟨S128x128, .f32⟩
  | 121 => ⟨S128x128x1, .f32⟩
  | 122 => ⟨S128x128x128, .f32⟩
  | 123 => ⟨S128x128x128, .f32⟩
  | 124 => ⟨S128x1x64x128, .f32⟩
  | 125 => ⟨S128x64x128, .f32⟩
  | 126 => ⟨S128x1x64x128, .f32⟩
  | 127 => ⟨S128x64x128, .f32⟩
  | _ => ⟨S4x8x4x16384x128, .bf16⟩

abbrev hbmTy0_5 (i : Nat) : BufTy := match i % 128 with
  | 0 => ⟨S128x128x128, .f32⟩
  | 1 => ⟨S128x128x128, .f32⟩
  | 2 => ⟨S128x1x64x128, .f32⟩
  | 3 => ⟨S128x64x128, .f32⟩
  | 4 => ⟨S128x64x128, .f32⟩
  | 5 => ⟨S128x1x128, .f32⟩
  | 6 => ⟨S128x128, .f32⟩
  | 7 => ⟨S128x128x1, .f32⟩
  | 8 => ⟨S128x128x128, .f32⟩
  | 9 => ⟨S128x128x128, .f32⟩
  | 10 => ⟨S128x1x64x128, .f32⟩
  | 11 => ⟨S128x64x128, .f32⟩
  | 12 => ⟨S128x1x64x128, .f32⟩
  | 13 => ⟨S128x64x128, .f32⟩
  | 14 => ⟨S128x128x128, .f32⟩
  | 15 => ⟨S128x128x128, .f32⟩
  | 16 => ⟨S128x1x64x128, .f32⟩
  | 17 => ⟨S128x64x128, .f32⟩
  | 18 => ⟨S128x64x128, .f32⟩
  | 19 => ⟨S128x1x128, .f32⟩
  | 20 => ⟨S128x128, .f32⟩
  | 21 => ⟨S128x128x1, .f32⟩
  | 22 => ⟨S128x128x128, .f32⟩
  | 23 => ⟨S128x128x128, .f32⟩
  | 24 => ⟨S128x1x64x128, .f32⟩
  | 25 => ⟨S128x64x128, .f32⟩
  | 26 => ⟨S128x1x64x128, .f32⟩
  | 27 => ⟨S128x64x128, .f32⟩
  | 28 => ⟨S128x128x128, .f32⟩
  | 29 => ⟨S128x128x128, .f32⟩
  | 30 => ⟨S128x1x64x128, .f32⟩
  | 31 => ⟨S128x64x128, .f32⟩
  | 32 => ⟨S128x64x128, .f32⟩
  | 33 => ⟨S128x1x128, .f32⟩
  | 34 => ⟨S128x128, .f32⟩
  | 35 => ⟨S128x128x1, .f32⟩
  | 36 => ⟨S128x128x128, .f32⟩
  | 37 => ⟨S128x128x128, .f32⟩
  | 38 => ⟨S128x1x64x128, .f32⟩
  | 39 => ⟨S128x64x128, .f32⟩
  | 40 => ⟨S128x1x64x128, .f32⟩
  | 41 => ⟨S128x64x128, .f32⟩
  | 42 => ⟨S128x128x128, .f32⟩
  | 43 => ⟨S128x128x128, .f32⟩
  | 44 => ⟨S128x1x64x128, .f32⟩
  | 45 => ⟨S128x64x128, .f32⟩
  | 46 => ⟨S128x64x128, .f32⟩
  | 47 => ⟨S128x1x128, .f32⟩
  | 48 => ⟨S128x128, .f32⟩
  | 49 => ⟨S128x128x1, .f32⟩
  | 50 => ⟨S128x128x128, .f32⟩
  | 51 => ⟨S128x128x128, .f32⟩
  | 52 => ⟨S128x1x64x128, .f32⟩
  | 53 => ⟨S128x64x128, .f32⟩
  | 54 => ⟨S128x1x64x128, .f32⟩
  | 55 => ⟨S128x64x128, .f32⟩
  | 56 => ⟨S128x128x128, .f32⟩
  | 57 => ⟨S128x128x128, .f32⟩
  | 58 => ⟨S128x1x64x128, .f32⟩
  | 59 => ⟨S128x64x128, .f32⟩
  | 60 => ⟨S128x64x128, .f32⟩
  | 61 => ⟨S128x1x128, .f32⟩
  | 62 => ⟨S128x128, .f32⟩
  | 63 => ⟨S128x128x1, .f32⟩
  | 64 => ⟨S128x128x128, .f32⟩
  | 65 => ⟨S128x128x128, .f32⟩
  | 66 => ⟨S128x1x64x128, .f32⟩
  | 67 => ⟨S128x64x128, .f32⟩
  | 68 => ⟨S128x1x64x128, .f32⟩
  | 69 => ⟨S128x64x128, .f32⟩
  | 70 => ⟨S128x128x128, .f32⟩
  | 71 => ⟨S128x128x128, .f32⟩
  | 72 => ⟨S128x1x64x128, .f32⟩
  | 73 => ⟨S128x64x128, .f32⟩
  | 74 => ⟨S128x64x128, .f32⟩
  | 75 => ⟨S128x1x128, .f32⟩
  | 76 => ⟨S128x128, .f32⟩
  | 77 => ⟨S128x128x1, .f32⟩
  | 78 => ⟨S128x128x128, .f32⟩
  | 79 => ⟨S128x128x128, .f32⟩
  | 80 => ⟨S128x1x64x128, .f32⟩
  | 81 => ⟨S128x64x128, .f32⟩
  | 82 => ⟨S128x1x64x128, .f32⟩
  | 83 => ⟨S128x64x128, .f32⟩
  | 84 => ⟨S128x128x128, .f32⟩
  | 85 => ⟨S128x128x128, .f32⟩
  | 86 => ⟨S128x1x64x128, .f32⟩
  | 87 => ⟨S128x64x128, .f32⟩
  | 88 => ⟨S128x64x128, .f32⟩
  | 89 => ⟨S128x1x128, .f32⟩
  | 90 => ⟨S128x128, .f32⟩
  | 91 => ⟨S128x128x1, .f32⟩
  | 92 => ⟨S128x128x128, .f32⟩
  | 93 => ⟨S128x128x128, .f32⟩
  | 94 => ⟨S128x1x64x128, .f32⟩
  | 95 => ⟨S128x64x128, .f32⟩
  | 96 => ⟨S128x1x64x128, .f32⟩
  | 97 => ⟨S128x64x128, .f32⟩
  | 98 => ⟨S128x128x128, .f32⟩
  | 99 => ⟨S128x128x128, .f32⟩
  | 100 => ⟨S128x1x64x128, .f32⟩
  | 101 => ⟨S128x64x128, .f32⟩
  | 102 => ⟨S128x64x128, .f32⟩
  | 103 => ⟨S128x1x128, .f32⟩
  | 104 => ⟨S128x128, .f32⟩
  | 105 => ⟨S128x128x1, .f32⟩
  | 106 => ⟨S128x128x128, .f32⟩
  | 107 => ⟨S128x128x128, .f32⟩
  | 108 => ⟨S128x1x64x128, .f32⟩
  | 109 => ⟨S128x64x128, .f32⟩
  | 110 => ⟨S128x1x64x128, .f32⟩
  | 111 => ⟨S128x64x128, .f32⟩
  | 112 => ⟨S128x128x128, .f32⟩
  | 113 => ⟨S128x128x128, .f32⟩
  | 114 => ⟨S128x1x64x128, .f32⟩
  | 115 => ⟨S128x64x128, .f32⟩
  | 116 => ⟨S128x64x128, .f32⟩
  | 117 => ⟨S128x1x128, .f32⟩
  | 118 => ⟨S128x128, .f32⟩
  | 119 => ⟨S128x128x1, .f32⟩
  | 120 => ⟨S128x128x128, .f32⟩
  | 121 => ⟨S128x128x128, .f32⟩
  | 122 => ⟨S128x1x64x128, .f32⟩
  | 123 => ⟨S128x64x128, .f32⟩
  | 124 => ⟨S128x1x64x128, .f32⟩
  | 125 => ⟨S128x64x128, .f32⟩
  | 126 => ⟨S128x128x128, .f32⟩
  | 127 => ⟨S128x128x128, .f32⟩
  | _ => ⟨S4x8x4x16384x128, .bf16⟩

abbrev hbmTy0_6 (i : Nat) : BufTy := match i % 128 with
  | 0 => ⟨S128x1x64x128, .f32⟩
  | 1 => ⟨S128x64x128, .f32⟩
  | 2 => ⟨S128x64x128, .f32⟩
  | 3 => ⟨S128x1x128, .f32⟩
  | 4 => ⟨S128x128, .f32⟩
  | 5 => ⟨S128x128x1, .f32⟩
  | 6 => ⟨S128x128x128, .f32⟩
  | 7 => ⟨S128x128x128, .f32⟩
  | 8 => ⟨S128x1x64x128, .f32⟩
  | 9 => ⟨S128x64x128, .f32⟩
  | 10 => ⟨S128x1x64x128, .f32⟩
  | 11 => ⟨S128x64x128, .f32⟩
  | 12 => ⟨S128x128x128, .f32⟩
  | 13 => ⟨S128x128x128, .f32⟩
  | 14 => ⟨S128x1x64x128, .f32⟩
  | 15 => ⟨S128x64x128, .f32⟩
  | 16 => ⟨S128x64x128, .f32⟩
  | 17 => ⟨S128x1x128, .f32⟩
  | 18 => ⟨S128x128, .f32⟩
  | 19 => ⟨S128x128x1, .f32⟩
  | 20 => ⟨S128x128x128, .f32⟩
  | 21 => ⟨S128x128x128, .f32⟩
  | 22 => ⟨S128x1x64x128, .f32⟩
  | 23 => ⟨S128x64x128, .f32⟩
  | 24 => ⟨S128x1x64x128, .f32⟩
  | 25 => ⟨S128x64x128, .f32⟩
  | 26 => ⟨S128x128x128, .f32⟩
  | 27 => ⟨S128x128x128, .f32⟩
  | 28 => ⟨S128x1x64x128, .f32⟩
  | 29 => ⟨S128x1x64x128, .f32⟩
  | 30 => ⟨S128x1x64x128, .f32⟩
  | 31 => ⟨S128x1x64x128, .f32⟩
  | 32 => ⟨S128x1x64x128, .f32⟩
  | 33 => ⟨S128x1x64x128, .f32⟩
  | 34 => ⟨S128x1x64x128, .f32⟩
  | 35 => ⟨S128x1x64x128, .f32⟩
  | 36 => ⟨S128x1x64x128, .f32⟩
  | 37 => ⟨S128x1x64x128, .f32⟩
  | 38 => ⟨S128x1x64x128, .f32⟩
  | 39 => ⟨S128x1x64x128, .f32⟩
  | 40 => ⟨S128x1x64x128, .f32⟩
  | 41 => ⟨S128x1x64x128, .f32⟩
  | 42 => ⟨S128x1x64x128, .f32⟩
  | 43 => ⟨S128x1x64x128, .f32⟩
  | 44 => ⟨S128x1x64x128, .f32⟩
  | 45 => ⟨S128x1x64x128, .f32⟩
  | 46 => ⟨S128x1x64x128, .f32⟩
  | 47 => ⟨S128x1x64x128, .f32⟩
  | 48 => ⟨S128x1x64x128, .f32⟩
  | 49 => ⟨S128x1x64x128, .f32⟩
  | 50 => ⟨S128x1x64x128, .f32⟩
  | 51 => ⟨S128x1x64x128, .f32⟩
  | 52 => ⟨S128x1x64x128, .f32⟩
  | 53 => ⟨S128x1x64x128, .f32⟩
  | 54 => ⟨S128x1x64x128, .f32⟩
  | 55 => ⟨S128x1x64x128, .f32⟩
  | 56 => ⟨S128x1x64x128, .f32⟩
  | 57 => ⟨S128x1x64x128, .f32⟩
  | 58 => ⟨S128x1x64x128, .f32⟩
  | 59 => ⟨S128x1x64x128, .f32⟩
  | 60 => ⟨S128x16x64x128, .f32⟩
  | 61 => ⟨S128x16x64x128, .f32⟩
  | 62 => ⟨S128x32x64x128, .f32⟩
  | 63 => ⟨S128x32x64x128, .f32⟩
  | 64 => ⟨S128x2048x128, .f32⟩
  | 65 => ⟨S128x2048x128, .f32⟩
  | 66 => ⟨S_, .f32⟩
  | 67 => ⟨S128x2048, .f32⟩
  | 68 => ⟨S128x2048x1, .f32⟩
  | 69 => ⟨S_, .f32⟩
  | 70 => ⟨S128x2048x1, .f32⟩
  | 71 => ⟨S128x2048x1, .f32⟩
  | 72 => ⟨S_, .f32⟩
  | 73 => ⟨S128x2048x1, .f32⟩
  | 74 => ⟨S128x2048x1, .f32⟩
  | 75 => ⟨S128x2048x1, .f32⟩
  | 76 => ⟨S128x2048x128, .f32⟩
  | 77 => ⟨S128x2048x128, .f32⟩
  | 78 => ⟨S16x128, .f32⟩
  | 79 => ⟨S16x8x128, .f32⟩
  | 80 => ⟨S128x128, .f32⟩
  | 81 => ⟨S128x1x128, .f32⟩
  | 82 => ⟨S128x2048x128, .f32⟩
  | 83 => ⟨S128x2048x128, .f32⟩
  | 84 => ⟨S128x2048x128, .f32⟩
  | 85 => ⟨S128x2048x128, .f32⟩
  | 86 => ⟨S_, .f32⟩
  | 87 => ⟨S128x2048x128, .f32⟩
  | 88 => ⟨S128x2048x128, .f32⟩
  | 89 => ⟨S_, .f32⟩
  | 90 => ⟨S128x2048x128, .f32⟩
  | 91 => ⟨S128x2048x128, .f32⟩
  | 92 => ⟨S128x2048x128, .f32⟩
  | 93 => ⟨S128x2048x128, .f32⟩
  | 94 => ⟨S1x128x2048x128, .f32⟩
  | 95 => ⟨S1x128x2048x128, .f32⟩
  | 96 => ⟨S2x128x2048x128, .f32⟩
  | 97 => ⟨S2x16x16384x128, .f32⟩
  | 98 => ⟨S2x16x16384x128, .bf16⟩
  | 99 => ⟨S4096x4096, .f32⟩
  | 100 => ⟨S4096x4096, .bf16⟩
  | _ => ⟨S4x8x4x16384x128, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x8x4x16384x128, .bf16⟩

abbrev bufTy : (tb : Table) → Fin (tcTables nBuf tb) → BufTy
  | .hbm, ⟨i, _⟩ => hbmTy i
  | _, _ => ⟨S4x8x4x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_cst_1 : Ref sig .tc := ⟨.hbm, 60, rfl⟩
abbrev main_v54 : Ref sig .tc := ⟨.hbm, 61, rfl⟩
abbrev main_v55 : Ref sig .tc := ⟨.hbm, 62, rfl⟩
abbrev main_cst_2 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_cst_3 : Ref sig .tc := ⟨.hbm, 95, rfl⟩
abbrev main_v87 : Ref sig .tc := ⟨.hbm, 96, rfl⟩
abbrev main_cst_4 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_c : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_v5 : Ref sig .tc := ⟨.hbm, 107, rfl⟩
abbrev main_call0_v6 : Ref sig .tc := ⟨.hbm, 108, rfl⟩
abbrev main_call0_v7 : Ref sig .tc := ⟨.hbm, 109, rfl⟩
abbrev main_call0_v8 : Ref sig .tc := ⟨.hbm, 110, rfl⟩
abbrev main_call0_c : Ref sig .tc := ⟨.hbm, 111, rfl⟩
abbrev main_call0_v9 : Ref sig .tc := ⟨.hbm, 112, rfl⟩
abbrev main_call0_v10 : Ref sig .tc := ⟨.hbm, 113, rfl⟩
abbrev main_call0_v11 : Ref sig .tc := ⟨.hbm, 114, rfl⟩
abbrev main_call0_c_0 : Ref sig .tc := ⟨.hbm, 115, rfl⟩
abbrev main_call0_v12 : Ref sig .tc := ⟨.hbm, 116, rfl⟩
abbrev main_call0_v13 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_5 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v100 : Ref sig .tc := ⟨.hbm, 131, rfl⟩
abbrev main_values : Ref sig .tc := ⟨.hbm, 132, rfl⟩
abbrev main_indices : Ref sig .tc := ⟨.hbm, 133, rfl⟩
abbrev main_v101 : Ref sig .tc := ⟨.hbm, 134, rfl⟩
abbrev main_v102 : Ref sig .tc := ⟨.hbm, 135, rfl⟩
abbrev main_c_6 : Ref sig .tc := ⟨.hbm, 136, rfl⟩
abbrev main_v103 : Ref sig .tc := ⟨.hbm, 137, rfl⟩
abbrev main_v104 : Ref sig .tc := ⟨.hbm, 138, rfl⟩
abbrev main_c_7 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_8 : Ref sig .tc := ⟨.hbm, 143, rfl⟩
abbrev main_v108 : Ref sig .tc := ⟨.hbm, 144, rfl⟩
abbrev main_v109 : Ref sig .tc := ⟨.hbm, 145, rfl⟩
abbrev main_c_9 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_10 : Ref sig .tc := ⟨.hbm, 155, rfl⟩
abbrev main_v118 : Ref sig .tc := ⟨.hbm, 156, rfl⟩
abbrev main_v119 : Ref sig .tc := ⟨.hbm, 157, rfl⟩
abbrev main_c_11 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_c_12 : Ref sig .tc := ⟨.hbm, 162, rfl⟩
abbrev main_v123 : Ref sig .tc := ⟨.hbm, 163, rfl⟩
abbrev main_v124 : Ref sig .tc := ⟨.hbm, 164, rfl⟩
abbrev main_c_13 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_14 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_15 : Ref sig .tc := ⟨.hbm, 185, rfl⟩
abbrev main_call2_v0 : Ref sig .tc := ⟨.hbm, 186, rfl⟩
abbrev main_call2_v1 : Ref sig .tc := ⟨.hbm, 187, rfl⟩
abbrev main_call2_v2 : Ref sig .tc := ⟨.hbm, 188, rfl⟩
abbrev main_v143 : Ref sig .tc := ⟨.hbm, 189, rfl⟩
abbrev main_v144 : Ref sig .tc := ⟨.hbm, 190, rfl⟩
abbrev main_cst_16 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_17 : Ref sig .tc := ⟨.hbm, 202, rfl⟩
abbrev main_call3_v0 : Ref sig .tc := ⟨.hbm, 203, rfl⟩
abbrev main_call3_v1 : Ref sig .tc := ⟨.hbm, 204, rfl⟩
abbrev main_call3_v2 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_18 : Ref sig .tc := ⟨.hbm, 210, rfl⟩
abbrev main_v159 : Ref sig .tc := ⟨.hbm, 211, rfl⟩
abbrev main_cst_19 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_20 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_call4_v0 : Ref sig .tc := ⟨.hbm, 232, rfl⟩
abbrev main_call4_v1 : Ref sig .tc := ⟨.hbm, 233, rfl⟩
abbrev main_call4_cst : Ref sig .tc := ⟨.hbm, 234, rfl⟩
abbrev main_call4_v2 : Ref sig .tc := ⟨.hbm, 235, rfl⟩
abbrev main_call4_v3 : Ref sig .tc := ⟨.hbm, 236, rfl⟩
abbrev main_call4_cst_0 : Ref sig .tc := ⟨.hbm, 237, rfl⟩
abbrev main_call4_v4 : Ref sig .tc := ⟨.hbm, 238, rfl⟩
abbrev main_call4_v5 : Ref sig .tc := ⟨.hbm, 239, rfl⟩
abbrev main_v178 : Ref sig .tc := ⟨.hbm, 240, rfl⟩
abbrev main_v179 : Ref sig .tc := ⟨.hbm, 241, rfl⟩
abbrev main_cst_21 : Ref sig .tc := ⟨.hbm, 242, rfl⟩
abbrev main_v180 : Ref sig .tc := ⟨.hbm, 243, rfl⟩
abbrev main_cst_22 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_cst_23 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_call5_call0_cst : Ref sig .tc := ⟨.hbm, 256, rfl⟩
abbrev main_call5_call0_v0 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_cst_24 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_cst_25 : Ref sig .tc := ⟨.hbm, 270, rfl⟩
abbrev main_v202 : Ref sig .tc := ⟨.hbm, 271, rfl⟩
abbrev main_v203 : Ref sig .tc := ⟨.hbm, 272, rfl⟩
abbrev main_cst_26 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_cst_27 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_cst_28 : Ref sig .tc := ⟨.hbm, 287, rfl⟩
abbrev main_v216 : Ref sig .tc := ⟨.hbm, 288, rfl⟩
abbrev main_v217 : Ref sig .tc := ⟨.hbm, 289, rfl⟩
abbrev main_cst_29 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_call6_v0 : Ref sig .tc := ⟨.hbm, 295, rfl⟩
abbrev main_call6_v1 : Ref sig .tc := ⟨.hbm, 296, rfl⟩
abbrev main_call6_cst : Ref sig .tc := ⟨.hbm, 297, rfl⟩
abbrev main_call6_v2 : Ref sig .tc := ⟨.hbm, 298, rfl⟩
abbrev main_call6_v3 : Ref sig .tc := ⟨.hbm, 299, rfl⟩
abbrev main_call6_cst_0 : Ref sig .tc := ⟨.hbm, 300, rfl⟩
abbrev main_call6_v4 : Ref sig .tc := ⟨.hbm, 301, rfl⟩
abbrev main_call6_v5 : Ref sig .tc := ⟨.hbm, 302, rfl⟩
abbrev main_v222 : Ref sig .tc := ⟨.hbm, 303, rfl⟩
abbrev main_cst_30 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_call7_call0_cst : Ref sig .tc := ⟨.hbm, 311, rfl⟩
abbrev main_call7_call0_v0 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_cst_31 : Ref sig .tc := ⟨.hbm, 332, rfl⟩
abbrev main_call8_v0 : Ref sig .tc := ⟨.hbm, 333, rfl⟩
abbrev main_call8_v1 : Ref sig .tc := ⟨.hbm, 334, rfl⟩
abbrev main_call8_v2 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_cst_32 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_v296 : Ref sig .tc := ⟨.hbm, 385, rfl⟩
abbrev main_v297 : Ref sig .tc := ⟨.hbm, 386, rfl⟩
abbrev main_v298 : Ref sig .tc := ⟨.hbm, 387, rfl⟩
abbrev main_v299 : Ref sig .tc := ⟨.hbm, 388, rfl⟩
abbrev main_v300 : Ref sig .tc := ⟨.hbm, 389, rfl⟩
abbrev main_v301 : Ref sig .tc := ⟨.hbm, 390, rfl⟩
abbrev main_v302 : Ref sig .tc := ⟨.hbm, 391, rfl⟩
abbrev main_v303 : Ref sig .tc := ⟨.hbm, 392, rfl⟩
abbrev main_v304 : Ref sig .tc := ⟨.hbm, 393, rfl⟩
abbrev main_v305 : Ref sig .tc := ⟨.hbm, 394, rfl⟩
abbrev main_v306 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_v320 : Ref sig .tc := ⟨.hbm, 409, rfl⟩
abbrev main_v321 : Ref sig .tc := ⟨.hbm, 410, rfl⟩
abbrev main_v322 : Ref sig .tc := ⟨.hbm, 411, rfl⟩
abbrev main_v323 : Ref sig .tc := ⟨.hbm, 412, rfl⟩
abbrev main_v324 : Ref sig .tc := ⟨.hbm, 413, rfl⟩
abbrev main_v325 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_v369 : Ref sig .tc := ⟨.hbm, 458, rfl⟩
abbrev main_v370 : Ref sig .tc := ⟨.hbm, 459, rfl⟩
abbrev main_v371 : Ref sig .tc := ⟨.hbm, 460, rfl⟩
abbrev main_v372 : Ref sig .tc := ⟨.hbm, 461, rfl⟩
abbrev main_v373 : Ref sig .tc := ⟨.hbm, 462, rfl⟩
abbrev main_v374 : Ref sig .tc := ⟨.hbm, 463, rfl⟩
abbrev main_v375 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_v379 : Ref sig .tc := ⟨.hbm, 468, rfl⟩
abbrev main_v380 : Ref sig .tc := ⟨.hbm, 469, rfl⟩
abbrev main_v381 : Ref sig .tc := ⟨.hbm, 470, rfl⟩
abbrev main_v382 : Ref sig .tc := ⟨.hbm, 471, rfl⟩
abbrev main_v383 : Ref sig .tc := ⟨.hbm, 472, rfl⟩
abbrev main_v384 : Ref sig .tc := ⟨.hbm, 473, rfl⟩
abbrev main_v385 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_v389 : Ref sig .tc := ⟨.hbm, 478, rfl⟩
abbrev main_v390 : Ref sig .tc := ⟨.hbm, 479, rfl⟩
abbrev main_v391 : Ref sig .tc := ⟨.hbm, 480, rfl⟩
abbrev main_v392 : Ref sig .tc := ⟨.hbm, 481, rfl⟩
abbrev main_v393 : Ref sig .tc := ⟨.hbm, 482, rfl⟩
abbrev main_v394 : Ref sig .tc := ⟨.hbm, 483, rfl⟩
abbrev main_v395 : Ref sig .tc := ⟨.hbm, 484, rfl⟩
abbrev main_v396 : Ref sig .tc := ⟨.hbm, 485, rfl⟩
abbrev main_v397 : Ref sig .tc := ⟨.hbm, 486, rfl⟩
abbrev main_v398 : Ref sig .tc := ⟨.hbm, 487, rfl⟩
abbrev main_v399 : Ref sig .tc := ⟨.hbm, 488, rfl⟩
abbrev main_v400 : Ref sig .tc := ⟨.hbm, 489, rfl⟩
abbrev main_v401 : Ref sig .tc := ⟨.hbm, 490, rfl⟩
abbrev main_v402 : Ref sig .tc := ⟨.hbm, 491, rfl⟩
abbrev main_v403 : Ref sig .tc := ⟨.hbm, 492, rfl⟩
abbrev main_v404 : Ref sig .tc := ⟨.hbm, 493, rfl⟩
abbrev main_v405 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_v411 : Ref sig .tc := ⟨.hbm, 500, rfl⟩
abbrev main_v412 : Ref sig .tc := ⟨.hbm, 501, rfl⟩
abbrev main_v413 : Ref sig .tc := ⟨.hbm, 502, rfl⟩
abbrev main_v414 : Ref sig .tc := ⟨.hbm, 503, rfl⟩
abbrev main_v415 : Ref sig .tc := ⟨.hbm, 504, rfl⟩
abbrev main_v416 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_v420 : Ref sig .tc := ⟨.hbm, 509, rfl⟩
abbrev main_v421 : Ref sig .tc := ⟨.hbm, 510, rfl⟩
abbrev main_v422 : Ref sig .tc := ⟨.hbm, 511, rfl⟩
abbrev main_v423 : Ref sig .tc := ⟨.hbm, 512, rfl⟩
abbrev main_v424 : Ref sig .tc := ⟨.hbm, 513, rfl⟩
abbrev main_v425 : Ref sig .tc := ⟨.hbm, 514, rfl⟩
abbrev main_v426 : Ref sig .tc := ⟨.hbm, 515, rfl⟩
abbrev main_v427 : Ref sig .tc := ⟨.hbm, 516, rfl⟩
abbrev main_v428 : Ref sig .tc := ⟨.hbm, 517, rfl⟩
abbrev main_v429 : Ref sig .tc := ⟨.hbm, 518, rfl⟩
abbrev main_v430 : Ref sig .tc := ⟨.hbm, 519, rfl⟩
abbrev main_v431 : Ref sig .tc := ⟨.hbm, 520, rfl⟩
abbrev main_v432 : Ref sig .tc := ⟨.hbm, 521, rfl⟩
abbrev main_v433 : Ref sig .tc := ⟨.hbm, 522, rfl⟩
abbrev main_v434 : Ref sig .tc := ⟨.hbm, 523, rfl⟩
abbrev main_v435 : Ref sig .tc := ⟨.hbm, 524, rfl⟩
abbrev main_v436 : Ref sig .tc := ⟨.hbm, 525, rfl⟩
abbrev main_v437 : Ref sig .tc := ⟨.hbm, 526, rfl⟩
abbrev main_v438 : Ref sig .tc := ⟨.hbm, 527, rfl⟩
abbrev main_v439 : Ref sig .tc := ⟨.hbm, 528, rfl⟩
abbrev main_v440 : Ref sig .tc := ⟨.hbm, 529, rfl⟩
abbrev main_v441 : Ref sig .tc := ⟨.hbm, 530, rfl⟩
abbrev main_v442 : Ref sig .tc := ⟨.hbm, 531, rfl⟩
abbrev main_v443 : Ref sig .tc := ⟨.hbm, 532, rfl⟩
abbrev main_v444 : Ref sig .tc := ⟨.hbm, 533, rfl⟩
abbrev main_v445 : Ref sig .tc := ⟨.hbm, 534, rfl⟩
abbrev main_v446 : Ref sig .tc := ⟨.hbm, 535, rfl⟩
abbrev main_v447 : Ref sig .tc := ⟨.hbm, 536, rfl⟩
abbrev main_v448 : Ref sig .tc := ⟨.hbm, 537, rfl⟩
abbrev main_v449 : Ref sig .tc := ⟨.hbm, 538, rfl⟩
abbrev main_v450 : Ref sig .tc := ⟨.hbm, 539, rfl⟩
abbrev main_v451 : Ref sig .tc := ⟨.hbm, 540, rfl⟩
abbrev main_v452 : Ref sig .tc := ⟨.hbm, 541, rfl⟩
abbrev main_v453 : Ref sig .tc := ⟨.hbm, 542, rfl⟩
abbrev main_v454 : Ref sig .tc := ⟨.hbm, 543, rfl⟩
abbrev main_v455 : Ref sig .tc := ⟨.hbm, 544, rfl⟩
abbrev main_v456 : Ref sig .tc := ⟨.hbm, 545, rfl⟩
abbrev main_v457 : Ref sig .tc := ⟨.hbm, 546, rfl⟩
abbrev main_v458 : Ref sig .tc := ⟨.hbm, 547, rfl⟩
abbrev main_v459 : Ref sig .tc := ⟨.hbm, 548, rfl⟩
abbrev main_v460 : Ref sig .tc := ⟨.hbm, 549, rfl⟩
abbrev main_v461 : Ref sig .tc := ⟨.hbm, 550, rfl⟩
abbrev main_v462 : Ref sig .tc := ⟨.hbm, 551, rfl⟩
abbrev main_v463 : Ref sig .tc := ⟨.hbm, 552, rfl⟩
abbrev main_v464 : Ref sig .tc := ⟨.hbm, 553, rfl⟩
abbrev main_v465 : Ref sig .tc := ⟨.hbm, 554, rfl⟩
abbrev main_v466 : Ref sig .tc := ⟨.hbm, 555, rfl⟩
abbrev main_v467 : Ref sig .tc := ⟨.hbm, 556, rfl⟩
abbrev main_v468 : Ref sig .tc := ⟨.hbm, 557, rfl⟩
abbrev main_v469 : Ref sig .tc := ⟨.hbm, 558, rfl⟩
abbrev main_v470 : Ref sig .tc := ⟨.hbm, 559, rfl⟩
abbrev main_v471 : Ref sig .tc := ⟨.hbm, 560, rfl⟩
abbrev main_v472 : Ref sig .tc := ⟨.hbm, 561, rfl⟩
abbrev main_v473 : Ref sig .tc := ⟨.hbm, 562, rfl⟩
abbrev main_v474 : Ref sig .tc := ⟨.hbm, 563, rfl⟩
abbrev main_v475 : Ref sig .tc := ⟨.hbm, 564, rfl⟩
abbrev main_v476 : Ref sig .tc := ⟨.hbm, 565, rfl⟩
abbrev main_v477 : Ref sig .tc := ⟨.hbm, 566, rfl⟩
abbrev main_v478 : Ref sig .tc := ⟨.hbm, 567, rfl⟩
abbrev main_v479 : Ref sig .tc := ⟨.hbm, 568, rfl⟩
abbrev main_v480 : Ref sig .tc := ⟨.hbm, 569, rfl⟩
abbrev main_v481 : Ref sig .tc := ⟨.hbm, 570, rfl⟩
abbrev main_v482 : Ref sig .tc := ⟨.hbm, 571, rfl⟩
abbrev main_v483 : Ref sig .tc := ⟨.hbm, 572, rfl⟩
abbrev main_v484 : Ref sig .tc := ⟨.hbm, 573, rfl⟩
abbrev main_v485 : Ref sig .tc := ⟨.hbm, 574, rfl⟩
abbrev main_v486 : Ref sig .tc := ⟨.hbm, 575, rfl⟩
abbrev main_v487 : Ref sig .tc := ⟨.hbm, 576, rfl⟩
abbrev main_v488 : Ref sig .tc := ⟨.hbm, 577, rfl⟩
abbrev main_v489 : Ref sig .tc := ⟨.hbm, 578, rfl⟩
abbrev main_v490 : Ref sig .tc := ⟨.hbm, 579, rfl⟩
abbrev main_v491 : Ref sig .tc := ⟨.hbm, 580, rfl⟩
abbrev main_v492 : Ref sig .tc := ⟨.hbm, 581, rfl⟩
abbrev main_v493 : Ref sig .tc := ⟨.hbm, 582, rfl⟩
abbrev main_v494 : Ref sig .tc := ⟨.hbm, 583, rfl⟩
abbrev main_v495 : Ref sig .tc := ⟨.hbm, 584, rfl⟩
abbrev main_v496 : Ref sig .tc := ⟨.hbm, 585, rfl⟩
abbrev main_v497 : Ref sig .tc := ⟨.hbm, 586, rfl⟩
abbrev main_v498 : Ref sig .tc := ⟨.hbm, 587, rfl⟩
abbrev main_v499 : Ref sig .tc := ⟨.hbm, 588, rfl⟩
abbrev main_v500 : Ref sig .tc := ⟨.hbm, 589, rfl⟩
abbrev main_v501 : Ref sig .tc := ⟨.hbm, 590, rfl⟩
abbrev main_v502 : Ref sig .tc := ⟨.hbm, 591, rfl⟩
abbrev main_v503 : Ref sig .tc := ⟨.hbm, 592, rfl⟩
abbrev main_v504 : Ref sig .tc := ⟨.hbm, 593, rfl⟩
abbrev main_v505 : Ref sig .tc := ⟨.hbm, 594, rfl⟩
abbrev main_v506 : Ref sig .tc := ⟨.hbm, 595, rfl⟩
abbrev main_v507 : Ref sig .tc := ⟨.hbm, 596, rfl⟩
abbrev main_v508 : Ref sig .tc := ⟨.hbm, 597, rfl⟩
abbrev main_v509 : Ref sig .tc := ⟨.hbm, 598, rfl⟩
abbrev main_v510 : Ref sig .tc := ⟨.hbm, 599, rfl⟩
abbrev main_v511 : Ref sig .tc := ⟨.hbm, 600, rfl⟩
abbrev main_v512 : Ref sig .tc := ⟨.hbm, 601, rfl⟩
abbrev main_v513 : Ref sig .tc := ⟨.hbm, 602, rfl⟩
abbrev main_v514 : Ref sig .tc := ⟨.hbm, 603, rfl⟩
abbrev main_v515 : Ref sig .tc := ⟨.hbm, 604, rfl⟩
abbrev main_v516 : Ref sig .tc := ⟨.hbm, 605, rfl⟩
abbrev main_v517 : Ref sig .tc := ⟨.hbm, 606, rfl⟩
abbrev main_v518 : Ref sig .tc := ⟨.hbm, 607, rfl⟩
abbrev main_v519 : Ref sig .tc := ⟨.hbm, 608, rfl⟩
abbrev main_v520 : Ref sig .tc := ⟨.hbm, 609, rfl⟩
abbrev main_v521 : Ref sig .tc := ⟨.hbm, 610, rfl⟩
abbrev main_v522 : Ref sig .tc := ⟨.hbm, 611, rfl⟩
abbrev main_v523 : Ref sig .tc := ⟨.hbm, 612, rfl⟩
abbrev main_v524 : Ref sig .tc := ⟨.hbm, 613, rfl⟩
abbrev main_v525 : Ref sig .tc := ⟨.hbm, 614, rfl⟩
abbrev main_v526 : Ref sig .tc := ⟨.hbm, 615, rfl⟩
abbrev main_v527 : Ref sig .tc := ⟨.hbm, 616, rfl⟩
abbrev main_v528 : Ref sig .tc := ⟨.hbm, 617, rfl⟩
abbrev main_v529 : Ref sig .tc := ⟨.hbm, 618, rfl⟩
abbrev main_v530 : Ref sig .tc := ⟨.hbm, 619, rfl⟩
abbrev main_v531 : Ref sig .tc := ⟨.hbm, 620, rfl⟩
abbrev main_v532 : Ref sig .tc := ⟨.hbm, 621, rfl⟩
abbrev main_v533 : Ref sig .tc := ⟨.hbm, 622, rfl⟩
abbrev main_v534 : Ref sig .tc := ⟨.hbm, 623, rfl⟩
abbrev main_v535 : Ref sig .tc := ⟨.hbm, 624, rfl⟩
abbrev main_v536 : Ref sig .tc := ⟨.hbm, 625, rfl⟩
abbrev main_v537 : Ref sig .tc := ⟨.hbm, 626, rfl⟩
abbrev main_v538 : Ref sig .tc := ⟨.hbm, 627, rfl⟩
abbrev main_v539 : Ref sig .tc := ⟨.hbm, 628, rfl⟩
abbrev main_v540 : Ref sig .tc := ⟨.hbm, 629, rfl⟩
abbrev main_v541 : Ref sig .tc := ⟨.hbm, 630, rfl⟩
abbrev main_v542 : Ref sig .tc := ⟨.hbm, 631, rfl⟩
abbrev main_v543 : Ref sig .tc := ⟨.hbm, 632, rfl⟩
abbrev main_v544 : Ref sig .tc := ⟨.hbm, 633, rfl⟩
abbrev main_v545 : Ref sig .tc := ⟨.hbm, 634, rfl⟩
abbrev main_v546 : Ref sig .tc := ⟨.hbm, 635, rfl⟩
abbrev main_v547 : Ref sig .tc := ⟨.hbm, 636, rfl⟩
abbrev main_v548 : Ref sig .tc := ⟨.hbm, 637, rfl⟩
abbrev main_v549 : Ref sig .tc := ⟨.hbm, 638, rfl⟩
abbrev main_v550 : Ref sig .tc := ⟨.hbm, 639, rfl⟩
abbrev main_v551 : Ref sig .tc := ⟨.hbm, 640, rfl⟩
abbrev main_v552 : Ref sig .tc := ⟨.hbm, 641, rfl⟩
abbrev main_v553 : Ref sig .tc := ⟨.hbm, 642, rfl⟩
abbrev main_v554 : Ref sig .tc := ⟨.hbm, 643, rfl⟩
abbrev main_v555 : Ref sig .tc := ⟨.hbm, 644, rfl⟩
abbrev main_v556 : Ref sig .tc := ⟨.hbm, 645, rfl⟩
abbrev main_v557 : Ref sig .tc := ⟨.hbm, 646, rfl⟩
abbrev main_v558 : Ref sig .tc := ⟨.hbm, 647, rfl⟩
abbrev main_v559 : Ref sig .tc := ⟨.hbm, 648, rfl⟩
abbrev main_v560 : Ref sig .tc := ⟨.hbm, 649, rfl⟩
abbrev main_v561 : Ref sig .tc := ⟨.hbm, 650, rfl⟩
abbrev main_v562 : Ref sig .tc := ⟨.hbm, 651, rfl⟩
abbrev main_v563 : Ref sig .tc := ⟨.hbm, 652, rfl⟩
abbrev main_v564 : Ref sig .tc := ⟨.hbm, 653, rfl⟩
abbrev main_v565 : Ref sig .tc := ⟨.hbm, 654, rfl⟩
abbrev main_v566 : Ref sig .tc := ⟨.hbm, 655, rfl⟩
abbrev main_v567 : Ref sig .tc := ⟨.hbm, 656, rfl⟩
abbrev main_v568 : Ref sig .tc := ⟨.hbm, 657, rfl⟩
abbrev main_v569 : Ref sig .tc := ⟨.hbm, 658, rfl⟩
abbrev main_v570 : Ref sig .tc := ⟨.hbm, 659, rfl⟩
abbrev main_v571 : Ref sig .tc := ⟨.hbm, 660, rfl⟩
abbrev main_v572 : Ref sig .tc := ⟨.hbm, 661, rfl⟩
abbrev main_v573 : Ref sig .tc := ⟨.hbm, 662, rfl⟩
abbrev main_v574 : Ref sig .tc := ⟨.hbm, 663, rfl⟩
abbrev main_v575 : Ref sig .tc := ⟨.hbm, 664, rfl⟩
abbrev main_v576 : Ref sig .tc := ⟨.hbm, 665, rfl⟩
abbrev main_v577 : Ref sig .tc := ⟨.hbm, 666, rfl⟩
abbrev main_v578 : Ref sig .tc := ⟨.hbm, 667, rfl⟩
abbrev main_v579 : Ref sig .tc := ⟨.hbm, 668, rfl⟩
abbrev main_v580 : Ref sig .tc := ⟨.hbm, 669, rfl⟩
abbrev main_v581 : Ref sig .tc := ⟨.hbm, 670, rfl⟩
abbrev main_v582 : Ref sig .tc := ⟨.hbm, 671, rfl⟩
abbrev main_v583 : Ref sig .tc := ⟨.hbm, 672, rfl⟩
abbrev main_v584 : Ref sig .tc := ⟨.hbm, 673, rfl⟩
abbrev main_v585 : Ref sig .tc := ⟨.hbm, 674, rfl⟩
abbrev main_v586 : Ref sig .tc := ⟨.hbm, 675, rfl⟩
abbrev main_v587 : Ref sig .tc := ⟨.hbm, 676, rfl⟩
abbrev main_v588 : Ref sig .tc := ⟨.hbm, 677, rfl⟩
abbrev main_v589 : Ref sig .tc := ⟨.hbm, 678, rfl⟩
abbrev main_v590 : Ref sig .tc := ⟨.hbm, 679, rfl⟩
abbrev main_v591 : Ref sig .tc := ⟨.hbm, 680, rfl⟩
abbrev main_v592 : Ref sig .tc := ⟨.hbm, 681, rfl⟩
abbrev main_v593 : Ref sig .tc := ⟨.hbm, 682, rfl⟩
abbrev main_v594 : Ref sig .tc := ⟨.hbm, 683, rfl⟩
abbrev main_v595 : Ref sig .tc := ⟨.hbm, 684, rfl⟩
abbrev main_v596 : Ref sig .tc := ⟨.hbm, 685, rfl⟩
abbrev main_v597 : Ref sig .tc := ⟨.hbm, 686, rfl⟩
abbrev main_v598 : Ref sig .tc := ⟨.hbm, 687, rfl⟩
abbrev main_v599 : Ref sig .tc := ⟨.hbm, 688, rfl⟩
abbrev main_v600 : Ref sig .tc := ⟨.hbm, 689, rfl⟩
abbrev main_v601 : Ref sig .tc := ⟨.hbm, 690, rfl⟩
abbrev main_v602 : Ref sig .tc := ⟨.hbm, 691, rfl⟩
abbrev main_v603 : Ref sig .tc := ⟨.hbm, 692, rfl⟩
abbrev main_v604 : Ref sig .tc := ⟨.hbm, 693, rfl⟩
abbrev main_v605 : Ref sig .tc := ⟨.hbm, 694, rfl⟩
abbrev main_v606 : Ref sig .tc := ⟨.hbm, 695, rfl⟩
abbrev main_v607 : Ref sig .tc := ⟨.hbm, 696, rfl⟩
abbrev main_v608 : Ref sig .tc := ⟨.hbm, 697, rfl⟩
abbrev main_v609 : Ref sig .tc := ⟨.hbm, 698, rfl⟩
abbrev main_v610 : Ref sig .tc := ⟨.hbm, 699, rfl⟩
abbrev main_v611 : Ref sig .tc := ⟨.hbm, 700, rfl⟩
abbrev main_v612 : Ref sig .tc := ⟨.hbm, 701, rfl⟩
abbrev main_v613 : Ref sig .tc := ⟨.hbm, 702, rfl⟩
abbrev main_v614 : Ref sig .tc := ⟨.hbm, 703, rfl⟩
abbrev main_v615 : Ref sig .tc := ⟨.hbm, 704, rfl⟩
abbrev main_v616 : Ref sig .tc := ⟨.hbm, 705, rfl⟩
abbrev main_v617 : Ref sig .tc := ⟨.hbm, 706, rfl⟩
abbrev main_v618 : Ref sig .tc := ⟨.hbm, 707, rfl⟩
abbrev main_v619 : Ref sig .tc := ⟨.hbm, 708, rfl⟩
abbrev main_v620 : Ref sig .tc := ⟨.hbm, 709, rfl⟩
abbrev main_v621 : Ref sig .tc := ⟨.hbm, 710, rfl⟩
abbrev main_v622 : Ref sig .tc := ⟨.hbm, 711, rfl⟩
abbrev main_v623 : Ref sig .tc := ⟨.hbm, 712, rfl⟩
abbrev main_v624 : Ref sig .tc := ⟨.hbm, 713, rfl⟩
abbrev main_v625 : Ref sig .tc := ⟨.hbm, 714, rfl⟩
abbrev main_v626 : Ref sig .tc := ⟨.hbm, 715, rfl⟩
abbrev main_v627 : Ref sig .tc := ⟨.hbm, 716, rfl⟩
abbrev main_v628 : Ref sig .tc := ⟨.hbm, 717, rfl⟩
abbrev main_v629 : Ref sig .tc := ⟨.hbm, 718, rfl⟩
abbrev main_v630 : Ref sig .tc := ⟨.hbm, 719, rfl⟩
abbrev main_v631 : Ref sig .tc := ⟨.hbm, 720, rfl⟩
abbrev main_v632 : Ref sig .tc := ⟨.hbm, 721, rfl⟩
abbrev main_v633 : Ref sig .tc := ⟨.hbm, 722, rfl⟩
abbrev main_v634 : Ref sig .tc := ⟨.hbm, 723, rfl⟩
abbrev main_v635 : Ref sig .tc := ⟨.hbm, 724, rfl⟩
abbrev main_v636 : Ref sig .tc := ⟨.hbm, 725, rfl⟩
abbrev main_v637 : Ref sig .tc := ⟨.hbm, 726, rfl⟩
abbrev main_v638 : Ref sig .tc := ⟨.hbm, 727, rfl⟩
abbrev main_v639 : Ref sig .tc := ⟨.hbm, 728, rfl⟩
abbrev main_v640 : Ref sig .tc := ⟨.hbm, 729, rfl⟩
abbrev main_v641 : Ref sig .tc := ⟨.hbm, 730, rfl⟩
abbrev main_v642 : Ref sig .tc := ⟨.hbm, 731, rfl⟩
abbrev main_v643 : Ref sig .tc := ⟨.hbm, 732, rfl⟩
abbrev main_v644 : Ref sig .tc := ⟨.hbm, 733, rfl⟩
abbrev main_v645 : Ref sig .tc := ⟨.hbm, 734, rfl⟩
abbrev main_v646 : Ref sig .tc := ⟨.hbm, 735, rfl⟩
abbrev main_v647 : Ref sig .tc := ⟨.hbm, 736, rfl⟩
abbrev main_v648 : Ref sig .tc := ⟨.hbm, 737, rfl⟩
abbrev main_v649 : Ref sig .tc := ⟨.hbm, 738, rfl⟩
abbrev main_v650 : Ref sig .tc := ⟨.hbm, 739, rfl⟩
abbrev main_v651 : Ref sig .tc := ⟨.hbm, 740, rfl⟩
abbrev main_v652 : Ref sig .tc := ⟨.hbm, 741, rfl⟩
abbrev main_v653 : Ref sig .tc := ⟨.hbm, 742, rfl⟩
abbrev main_v654 : Ref sig .tc := ⟨.hbm, 743, rfl⟩
abbrev main_v655 : Ref sig .tc := ⟨.hbm, 744, rfl⟩
abbrev main_v656 : Ref sig .tc := ⟨.hbm, 745, rfl⟩
abbrev main_v657 : Ref sig .tc := ⟨.hbm, 746, rfl⟩
abbrev main_v658 : Ref sig .tc := ⟨.hbm, 747, rfl⟩
abbrev main_v659 : Ref sig .tc := ⟨.hbm, 748, rfl⟩
abbrev main_v660 : Ref sig .tc := ⟨.hbm, 749, rfl⟩
abbrev main_v661 : Ref sig .tc := ⟨.hbm, 750, rfl⟩
abbrev main_v662 : Ref sig .tc := ⟨.hbm, 751, rfl⟩
abbrev main_v663 : Ref sig .tc := ⟨.hbm, 752, rfl⟩
abbrev main_v664 : Ref sig .tc := ⟨.hbm, 753, rfl⟩
abbrev main_v665 : Ref sig .tc := ⟨.hbm, 754, rfl⟩
abbrev main_v666 : Ref sig .tc := ⟨.hbm, 755, rfl⟩
abbrev main_v667 : Ref sig .tc := ⟨.hbm, 756, rfl⟩
abbrev main_v668 : Ref sig .tc := ⟨.hbm, 757, rfl⟩
abbrev main_v669 : Ref sig .tc := ⟨.hbm, 758, rfl⟩
abbrev main_v670 : Ref sig .tc := ⟨.hbm, 759, rfl⟩
abbrev main_v671 : Ref sig .tc := ⟨.hbm, 760, rfl⟩
abbrev main_v672 : Ref sig .tc := ⟨.hbm, 761, rfl⟩
abbrev main_v673 : Ref sig .tc := ⟨.hbm, 762, rfl⟩
abbrev main_v674 : Ref sig .tc := ⟨.hbm, 763, rfl⟩
abbrev main_v675 : Ref sig .tc := ⟨.hbm, 764, rfl⟩
abbrev main_v676 : Ref sig .tc := ⟨.hbm, 765, rfl⟩
abbrev main_v677 : Ref sig .tc := ⟨.hbm, 766, rfl⟩
abbrev main_v678 : Ref sig .tc := ⟨.hbm, 767, rfl⟩
abbrev main_v679 : Ref sig .tc := ⟨.hbm, 768, rfl⟩
abbrev main_v680 : Ref sig .tc := ⟨.hbm, 769, rfl⟩
abbrev main_v681 : Ref sig .tc := ⟨.hbm, 770, rfl⟩
abbrev main_v682 : Ref sig .tc := ⟨.hbm, 771, rfl⟩
abbrev main_v683 : Ref sig .tc := ⟨.hbm, 772, rfl⟩
abbrev main_v684 : Ref sig .tc := ⟨.hbm, 773, rfl⟩
abbrev main_v685 : Ref sig .tc := ⟨.hbm, 774, rfl⟩
abbrev main_v686 : Ref sig .tc := ⟨.hbm, 775, rfl⟩
abbrev main_v687 : Ref sig .tc := ⟨.hbm, 776, rfl⟩
abbrev main_v688 : Ref sig .tc := ⟨.hbm, 777, rfl⟩
abbrev main_v689 : Ref sig .tc := ⟨.hbm, 778, rfl⟩
abbrev main_v690 : Ref sig .tc := ⟨.hbm, 779, rfl⟩
abbrev main_v691 : Ref sig .tc := ⟨.hbm, 780, rfl⟩
abbrev main_v692 : Ref sig .tc := ⟨.hbm, 781, rfl⟩
abbrev main_v693 : Ref sig .tc := ⟨.hbm, 782, rfl⟩
abbrev main_v694 : Ref sig .tc := ⟨.hbm, 783, rfl⟩
abbrev main_v695 : Ref sig .tc := ⟨.hbm, 784, rfl⟩
abbrev main_v696 : Ref sig .tc := ⟨.hbm, 785, rfl⟩
abbrev main_v697 : Ref sig .tc := ⟨.hbm, 786, rfl⟩
abbrev main_v698 : Ref sig .tc := ⟨.hbm, 787, rfl⟩
abbrev main_v699 : Ref sig .tc := ⟨.hbm, 788, rfl⟩
abbrev main_v700 : Ref sig .tc := ⟨.hbm, 789, rfl⟩
abbrev main_v701 : Ref sig .tc := ⟨.hbm, 790, rfl⟩
abbrev main_v702 : Ref sig .tc := ⟨.hbm, 791, rfl⟩
abbrev main_v703 : Ref sig .tc := ⟨.hbm, 792, rfl⟩
abbrev main_v704 : Ref sig .tc := ⟨.hbm, 793, rfl⟩
abbrev main_v705 : Ref sig .tc := ⟨.hbm, 794, rfl⟩
abbrev main_v706 : Ref sig .tc := ⟨.hbm, 795, rfl⟩
abbrev main_v707 : Ref sig .tc := ⟨.hbm, 796, rfl⟩
abbrev main_v708 : Ref sig .tc := ⟨.hbm, 797, rfl⟩
abbrev main_v709 : Ref sig .tc := ⟨.hbm, 798, rfl⟩
abbrev main_v710 : Ref sig .tc := ⟨.hbm, 799, rfl⟩
abbrev main_v711 : Ref sig .tc := ⟨.hbm, 800, rfl⟩
abbrev main_v712 : Ref sig .tc := ⟨.hbm, 801, rfl⟩
abbrev main_v713 : Ref sig .tc := ⟨.hbm, 802, rfl⟩
abbrev main_v714 : Ref sig .tc := ⟨.hbm, 803, rfl⟩
abbrev main_v715 : Ref sig .tc := ⟨.hbm, 804, rfl⟩
abbrev main_v716 : Ref sig .tc := ⟨.hbm, 805, rfl⟩
abbrev main_v717 : Ref sig .tc := ⟨.hbm, 806, rfl⟩
abbrev main_v718 : Ref sig .tc := ⟨.hbm, 807, rfl⟩
abbrev main_v719 : Ref sig .tc := ⟨.hbm, 808, rfl⟩
abbrev main_v720 : Ref sig .tc := ⟨.hbm, 809, rfl⟩
abbrev main_v721 : Ref sig .tc := ⟨.hbm, 810, rfl⟩
abbrev main_v722 : Ref sig .tc := ⟨.hbm, 811, rfl⟩
abbrev main_v723 : Ref sig .tc := ⟨.hbm, 812, rfl⟩
abbrev main_v724 : Ref sig .tc := ⟨.hbm, 813, rfl⟩
abbrev main_v725 : Ref sig .tc := ⟨.hbm, 814, rfl⟩
abbrev main_v726 : Ref sig .tc := ⟨.hbm, 815, rfl⟩
abbrev main_v727 : Ref sig .tc := ⟨.hbm, 816, rfl⟩
abbrev main_v728 : Ref sig .tc := ⟨.hbm, 817, rfl⟩
abbrev main_v729 : Ref sig .tc := ⟨.hbm, 818, rfl⟩
abbrev main_v730 : Ref sig .tc := ⟨.hbm, 819, rfl⟩
abbrev main_v731 : Ref sig .tc := ⟨.hbm, 820, rfl⟩
abbrev main_v732 : Ref sig .tc := ⟨.hbm, 821, rfl⟩
abbrev main_v733 : Ref sig .tc := ⟨.hbm, 822, rfl⟩
abbrev main_v734 : Ref sig .tc := ⟨.hbm, 823, rfl⟩
abbrev main_v735 : Ref sig .tc := ⟨.hbm, 824, rfl⟩
abbrev main_v736 : Ref sig .tc := ⟨.hbm, 825, rfl⟩
abbrev main_v737 : Ref sig .tc := ⟨.hbm, 826, rfl⟩
abbrev main_v738 : Ref sig .tc := ⟨.hbm, 827, rfl⟩
abbrev main_v739 : Ref sig .tc := ⟨.hbm, 828, rfl⟩
abbrev main_v740 : Ref sig .tc := ⟨.hbm, 829, rfl⟩
abbrev main_v741 : Ref sig .tc := ⟨.hbm, 830, rfl⟩
abbrev main_v742 : Ref sig .tc := ⟨.hbm, 831, rfl⟩
abbrev main_v743 : Ref sig .tc := ⟨.hbm, 832, rfl⟩
abbrev main_v744 : Ref sig .tc := ⟨.hbm, 833, rfl⟩
abbrev main_cst_33 : Ref sig .tc := ⟨.hbm, 834, rfl⟩
abbrev main_v745 : Ref sig .tc := ⟨.hbm, 835, rfl⟩
abbrev main_v746 : Ref sig .tc := ⟨.hbm, 836, rfl⟩
abbrev main_cst_34 : Ref sig .tc := ⟨.hbm, 837, rfl⟩
abbrev main_v747 : Ref sig .tc := ⟨.hbm, 838, rfl⟩
abbrev main_v748 : Ref sig .tc := ⟨.hbm, 839, rfl⟩
abbrev main_cst_35 : Ref sig .tc := ⟨.hbm, 840, rfl⟩
abbrev main_v749 : Ref sig .tc := ⟨.hbm, 841, rfl⟩
abbrev main_v750 : Ref sig .tc := ⟨.hbm, 842, rfl⟩
abbrev main_v751 : Ref sig .tc := ⟨.hbm, 843, rfl⟩
abbrev main_v752 : Ref sig .tc := ⟨.hbm, 844, rfl⟩
abbrev main_v753 : Ref sig .tc := ⟨.hbm, 845, rfl⟩
abbrev main_v754 : Ref sig .tc := ⟨.hbm, 846, rfl⟩
abbrev main_v755 : Ref sig .tc := ⟨.hbm, 847, rfl⟩
abbrev main_v756 : Ref sig .tc := ⟨.hbm, 848, rfl⟩
abbrev main_v757 : Ref sig .tc := ⟨.hbm, 849, rfl⟩
abbrev main_v758 : Ref sig .tc := ⟨.hbm, 850, rfl⟩
abbrev main_v759 : Ref sig .tc := ⟨.hbm, 851, rfl⟩
abbrev main_call9_v0 : Ref sig .tc := ⟨.hbm, 852, rfl⟩
abbrev main_call9_v1 : Ref sig .tc := ⟨.hbm, 853, rfl⟩
abbrev main_call9_cst : Ref sig .tc := ⟨.hbm, 854, rfl⟩
abbrev main_call9_v2 : Ref sig .tc := ⟨.hbm, 855, rfl⟩
abbrev main_call9_v3 : Ref sig .tc := ⟨.hbm, 856, rfl⟩
abbrev main_call9_cst_0 : Ref sig .tc := ⟨.hbm, 857, rfl⟩
abbrev main_call9_v4 : Ref sig .tc := ⟨.hbm, 858, rfl⟩
abbrev main_call9_v5 : Ref sig .tc := ⟨.hbm, 859, rfl⟩
abbrev main_v760 : Ref sig .tc := ⟨.hbm, 860, rfl⟩
abbrev main_v761 : Ref sig .tc := ⟨.hbm, 861, rfl⟩
abbrev main_v762 : Ref sig .tc := ⟨.hbm, 862, rfl⟩
abbrev main_v763 : Ref sig .tc := ⟨.hbm, 863, rfl⟩
abbrev main_v764 : Ref sig .tc := ⟨.hbm, 864, rfl⟩
abbrev main_v765 : Ref sig .tc := ⟨.hbm, 865, rfl⟩
abbrev main_v766 : Ref sig .tc := ⟨.hbm, 866, rfl⟩
abbrev main_v767 : Ref sig .tc := ⟨.hbm, 867, rfl⟩
abbrev main_v768 : Ref sig .tc := ⟨.hbm, 868, rfl⟩

abbrev nD : Nat := 1
abbrev τ : Topo := Topo.v7x

variable {F : FTy → Type} [FloatOps F]

def κ : String → Option EReal := fun
  | "inv_sqrt_d" => some (((Real.sqrt 128)⁻¹ : ℝ) : EReal)
  | "mask" => some ⊥
  | _ => none
-- ==== Kernel2.lean ====
abbrev S16384x4096 : Shape := ⟨2, ![16384, 4096]⟩
abbrev S1x4096 : Shape := ⟨2, ![1, 4096]⟩
abbrev S1x4096x16384 : Shape := ⟨3, ![1, 4096, 16384]⟩
abbrev S4x8x4x16384x128 : Shape := ⟨5, ![4, 8, 4, 16384, 128]⟩
abbrev S64x4096 : Shape := ⟨2, ![64, 4096]⟩
abbrev S1x4096x512 : Shape := ⟨3, ![1, 4096, 512]⟩
abbrev S1x1x4x2048x128 : Shape := ⟨5, ![1, 1, 4, 2048, 128]⟩
abbrev S2048x4096 : Shape := ⟨2, ![2048, 4096]⟩
abbrev S64 : Shape := ⟨1, ![64]⟩
abbrev S64x1 : Shape := ⟨2, ![64, 1]⟩
abbrev S4096x512 : Shape := ⟨2, ![4096, 512]⟩
abbrev S2048x512 : Shape := ⟨2, ![2048, 512]⟩
abbrev S2048x128 : Shape := ⟨2, ![2048, 128]⟩
abbrev S1x1x1x2048x128 : Shape := ⟨5, ![1, 1, 1, 2048, 128]⟩

abbrev nBuf : Space → Nat
  | .hbm => 4
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x16384, .f32⟩
  | .hbm, ⟨3, _⟩ => ⟨S4x8x4x16384x128, .bf16⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S1x4096x512, .f32⟩
  | .local _ .vmem, ⟨4, _⟩ => ⟨S1x4096x512, .f32⟩
  | .local _ .vmem, ⟨5, _⟩ => ⟨S1x1x4x2048x128, .bf16⟩
  | .local _ .vmem, ⟨6, _⟩ => ⟨S1x1x4x2048x128, .bf16⟩
  | .local _ .vmem, ⟨7, _⟩ => ⟨S2048x4096, .bf16⟩
  | .local _ .vmem, ⟨8, _⟩ => ⟨S2048x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 32], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c64_i32 : BitVec 32 := 64#32
  let v39 : BitVec 32 := Scalar.muli arg1 c64_i32
  v39
def k0_off1 (i : grid0.Coords) : Fin 2 → Nat :=
  let arg1 : BitVec 32 := BitVec.ofNat 32 (i 1).val
  let c64_i32 : BitVec 32 := 64#32
  let v39 : BitVec 32 := Scalar.muli arg1 c64_i32
  let v40 : BitVec 32 := v39
  let v50 : Index := Scalar.indexCast v40
  let c0_22 : Index := 0#32
  ![v50.toNat, 0]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c2_i32 : BitVec 32 := 2#32
  let c0_i32_2 : BitVec 32 := 0#32
  let v4 : BitVec 1 := Scalar.cmpi .eq c2_i32 c0_i32_2
  let c1_i32 : BitVec 32 := 1#32
  let v5 : BitVec 32 := Scalar.select v4 c1_i32 c2_i32
  let v6 : BitVec 32 := Scalar.remsi arg0 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6 : BitVec 32 := 1#32
  let v14 : BitVec 1 := Scalar.cmpi .eq v13 c1_i32_6
  let v15 : BitVec 1 := Scalar.andi v3 v14
  let v16 : BitVec 32 := Scalar.extui v15
  let c0_i32_7 : BitVec 32 := 0#32
  let v17 : BitVec 1 := Scalar.cmpi .ne v16 c0_i32_7
  v17

def k0_mult2 (i : grid0.Coords) : BitVec 32 :=
  let arg1 : BitVec 32 := BitVec.ofNat 32 (i 1).val
  let c64_i32 : BitVec 32 := 64#32
  let v64 : BitVec 32 := Scalar.muli arg1 c64_i32
  v64
def k0_off2 (i : grid0.Coords) : Fin 2 → Nat :=
  let arg1 : BitVec 32 := BitVec.ofNat 32 (i 1).val
  let c64_i32 : BitVec 32 := 64#32
  let v64 : BitVec 32 := Scalar.muli arg1 c64_i32
  let v65 : BitVec 32 := v64
  let v75 : Index := Scalar.indexCast v65
  let c0_45 : Index := 0#32
  ![v75.toNat, 0]
def k0_cond3 (i : grid0.Coords) : BitVec 1 :=
  let arg0 : BitVec 32 := BitVec.ofNat 32 (i 0).val
  let c0_i32_8 : BitVec 32 := 0#32
  let v18 : BitVec 1 := Scalar.cmpi .sgt arg0 c0_i32_8
  let c2_i32_9 : BitVec 32 := 2#32
  let c0_i32_10 : BitVec 32 := 0#32
  let v19 : BitVec 1 := Scalar.cmpi .eq c2_i32_9 c0_i32_10
  let c1_i32_11 : BitVec 32 := 1#32
  let v20 : BitVec 32 := Scalar.select v19 c1_i32_11 c2_i32_9
  let v21 : BitVec 32 := Scalar.remsi arg0 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c0_i32_15 : BitVec 32 := 0#32
  let v29 : BitVec 1 := Scalar.cmpi .eq v28 c0_i32_15
  let v30 : BitVec 1 := Scalar.andi v18 v29
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c64_i32 : BitVec 32 := 64#32
  let v64 : BitVec 32 := Scalar.muli arg1 c64_i32
  v64
def k0_off3 (i : grid0.Coords) : Fin 2 → Nat :=
  let arg1 : BitVec 32 := BitVec.ofNat 32 (i 1).val
  let c64_i32 : BitVec 32 := 64#32
  let v64 : BitVec 32 := Scalar.muli arg1 c64_i32
  let v65 : BitVec 32 := v64
  let v75 : Index := Scalar.indexCast v65
  let c0_45 : Index := 0#32
  ![v75.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  let c0_i32_3 : BitVec 32 := 0#32
  ![c0_i32_1.toNat, c0_i32_2.toNat, v1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c4_i32 : BitVec 32 := 4#32
  let c0_i32_1 : BitVec 32 := 0#32
  let v2 : BitVec 1 := Scalar.cmpi .eq c4_i32 c0_i32_1
  let c1_i32 : BitVec 32 := 1#32
  let v3 : BitVec 32 := Scalar.select v2 c1_i32 c4_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c4_i32_5 : BitVec 32 := 4#32
  let v12 : BitVec 32 := Scalar.divsi v1 c4_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c4_i32_5 c0_i32_8
  let v19 : BitVec 32 := Scalar.extui v18
  let c0_i32_9 : BitVec 32 := 0#32
  let v20 : BitVec 1 := Scalar.cmpi .slt c4_i32_5 c0_i32_9
  let v21 : BitVec 32 := Scalar.extui v20
  let v22 : BitVec 32 := Scalar.subi v19 v21
  let v23 : BitVec 1 := Scalar.cmpi .ne v17 v22
  let v24 : BitVec 32 := Scalar.remsi v1 c4_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c1_i32_12 : BitVec 32 := 1#32
  let v29 : BitVec 32 := Scalar.subi arg0 c1_i32_12
  let c0_i32_13 : BitVec 32 := 0#32
  let v30 : BitVec 32 := Scalar.maxsi v29 c0_i32_13
  let c0_i32_14 : BitVec 32 := 0#32
  let c0_i32_15 : BitVec 32 := 0#32
  let c0_i32_16 : BitVec 32 := 0#32
  ![v11.toNat, v28.toNat, c0_i32_14.toNat, v30.toNat, c0_i32_15.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2.lean ====
abbrev S16384x4096 : Shape := ⟨2, ![16384, 4096]⟩
abbrev S1x4096 : Shape := ⟨2, ![1, 4096]⟩
abbrev S1x4096x16384 : Shape := ⟨3, ![1, 4096, 16384]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x16384 : Shape := ⟨2, ![4096, 16384]⟩
abbrev S16384x16384 : Shape := ⟨2, ![16384, 16384]⟩
abbrev S16384x8x4x4x128 : Shape := ⟨5, ![16384, 8, 4, 4, 128]⟩
abbrev S4x8x4x16384x128 : Shape := ⟨5, ![4, 8, 4, 16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x16384, .f32⟩
  | .hbm, ⟨3, _⟩ => ⟨S4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S4096x16384, .f32⟩
  | .hbm, ⟨21, _⟩ => ⟨S16384x16384, .f32⟩
  | .hbm, ⟨22, _⟩ => ⟨S16384x8x4x4x128, .f32⟩
  | .hbm, ⟨23, _⟩ => ⟨S4x8x4x16384x128, .f32⟩
  | .hbm, ⟨24, _⟩ => ⟨S4x8x4x16384x128, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S32x16384x128 : Shape := ⟨3, ![32, 16384, 128]⟩
abbrev S4096x4096 : Shape := ⟨2, ![4096, 4096]⟩
abbrev S16384x4096 : Shape := ⟨2, ![16384, 4096]⟩
abbrev S1x4096 : Shape := ⟨2, ![1, 4096]⟩
abbrev S8x512x128 : Shape := ⟨3, ![8, 512, 128]⟩
abbrev S1024x4096 : Shape := ⟨2, ![1024, 4096]⟩
abbrev S512x1024 : Shape := ⟨2, ![512, 1024]⟩
abbrev S512x4096 : Shape := ⟨2, ![512, 4096]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x16384x128, .bf16⟩
  | .hbm, ⟨1, _⟩ => ⟨S4096x4096, .bf16⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S8x512x128, .bf16⟩
  | .local _ .vmem, ⟨1, _⟩ => ⟨S8x512x128, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S1024x4096, .f32⟩
  | _, _ => ⟨S32x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 2], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v38 : Index := Scalar.indexCast v1
  let c0_25 : Index := 0#32
  ![v38.toNat, 0]
def k0_off2 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v42 : Index := Scalar.indexCast v1
  let c0_26 : Index := 0#32
  ![v42.toNat, 0]
def k0_cond2 (i : grid0.Coords) : BitVec 1 :=
  let arg1 : BitVec 32 := BitVec.ofNat 32 (i 1).val
  let c0_i32_1 : BitVec 32 := 0#32
  let v5 : BitVec 1 := Scalar.cmpi .sgt arg1 c0_i32_1
  let c3_i32 : BitVec 32 := 3#32
  let v6 : BitVec 1 := Scalar.cmpi .slt arg1 c3_i32
  let v7 : BitVec 1 := Scalar.andi v5 v6
  let v8 : BitVec 32 := Scalar.extui v7
  let c0_i32_2 : BitVec 32 := 0#32
  let v9 : BitVec 1 := Scalar.cmpi .ne v8 c0_i32_2
  v9

def k0_off3 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v19 : Index := Scalar.indexCast v1
  let c0 : Index := 0#32
  ![v19.toNat, 0]
def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_3 : BitVec 32 := 0#32
  let v12 : BitVec 1 := Scalar.cmpi .ne v11 c0_i32_3
  v12

def k0_off4 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v19 : Index := Scalar.indexCast v1
  let c1024 : Index := 1024#32
  ![v19.toNat, 1024]
def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_4 : BitVec 32 := 0#32
  let v15 : BitVec 1 := Scalar.cmpi .ne v14 c0_i32_4
  v15

def k0_off5 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v19 : Index := Scalar.indexCast v1
  let c2048 : Index := 2048#32
  ![v19.toNat, 2048]
def k0_cond5 (i : grid0.Coords) : BitVec 1 :=
  let arg1 : BitVec 32 := BitVec.ofNat 32 (i 1).val
  let c3_i32_5 : BitVec 32 := 3#32
  let v16 : BitVec 1 := Scalar.cmpi .eq arg1 c3_i32_5
  let v17 : BitVec 32 := Scalar.extui v16
  let c0_i32_6 : BitVec 32 := 0#32
  let v18 : BitVec 1 := Scalar.cmpi .ne v17 c0_i32_6
  v18

def k0_off6 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v19 : Index := Scalar.indexCast v1
  let c0 : Index := 0#32
  ![v19.toNat, 0]
def k0_off7 (i : grid0.Coords) : Fin 2 → Nat :=
  let arg2 : BitVec 32 := BitVec.ofNat 32 (i 2).val
  let c512_i32 : BitVec 32 := 512#32
  let v0 : BitVec 32 := Scalar.muli arg2 c512_i32
  let v1 : BitVec 32 := v0
  let v45 : Index := Scalar.indexCast v1
  let c3072 : Index := 3072#32
  ![v45.toNat, 3072]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg1 c3_i32
  let c0_i32 : BitVec 32 := 0#32
  let v1 : BitVec 32 := Scalar.select v0 arg2 c0_i32
  let c2_i32 : BitVec 32 := 2#32
  let v2 : BitVec 32 := Scalar.muli arg0 c2_i32
  let v3 : BitVec 32 := Scalar.addi v2 v1
  let c0_i32_0 : BitVec 32 := 0#32
  let c0_i32_1 : BitVec 32 := 0#32
  ![v3.toNat, c0_i32_0.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3.lean ====
abbrev S32x16384x128 : Shape := ⟨3, ![32, 16384, 128]⟩
abbrev S4096x4096 : Shape := ⟨2, ![4096, 4096]⟩
abbrev S16384x4096 : Shape := ⟨2, ![16384, 4096]⟩
abbrev S1x4096 : Shape := ⟨2, ![1, 4096]⟩
abbrev S16384x32x128 : Shape := ⟨3, ![16384, 32, 128]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S32x16384x128, .bf16⟩
  | .hbm, ⟨1, _⟩ => ⟨S4096x4096, .bf16⟩
  | .hbm, ⟨2, _⟩ => ⟨S16384x4096, .f32⟩
  | .hbm, ⟨3, _⟩ => ⟨S1x4096, .f32⟩
  | .hbm, ⟨4, _⟩ => ⟨S32x16384x128, .f32⟩
  | .hbm, ⟨5, _⟩ => ⟨S16384x32x128, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | .hbm, ⟨10, _⟩ => ⟨S4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x4096, .f32⟩
  | .hbm, ⟨23, _⟩ => ⟨S16384x4096, .f32⟩
  | .hbm, ⟨24, _⟩ => ⟨S1x4096, .f32⟩
  | .hbm, ⟨25, _⟩ => ⟨S16384x4096, .f32⟩
  | .hbm, ⟨26, _⟩ => ⟨S16384x4096, .f32⟩
  | _, _ => ⟨S32x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.Norm.Run.lean ====
/- The triples of the projection kernel's body, case by case: what one grid point leaves in the two scratch buffers
   and in the output block, for any float interpretation. -/
module

public import proofs.«01_k».proof.Proof.Gen.Kernel2Ideal.Frame
public import proofs.«01_k».proof.Proof.Gen.Kernel2Ideal.Skeleton
public import Idealize.ShloMosaic.Lib.WritesUnit
public import Idealize.ShloMosaic.Lib.Pipeline.Value
public import Idealize.ShloMosaic.Lib.Pipeline.DatRel

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- `S'` is `S` with the 64 rows from row `o` on replaced by the strip `v`. -/
def Put (S S' : Vec F S2048x4096 .bf16) (o : ℕ) (v : Vec F S64x4096 .bf16) : Prop :=
  (∀ (y : S2048x4096.Idx) (x : S64x4096.Idx), (y 0).val = o + (x 0).val → (y 1).val = (x 1).val → S' y = v x)
  ∧ ∀ y : S2048x4096.Idx, (y 0).val < o ∨ o + 64 ≤ (y 0).val → S' y = S y

/-- The output block `X` is the four column groups of the product of the scratch `S` and the weights `w`. -/
def OutIs (X : Vec F S1x1x4x2048x128 .bf16) (S : Vec F S2048x4096 .bf16) (w : Vec F S1x4096x512 .f32) : Prop :=
  ∀ (y : S1x1x4x2048x128.Idx) (x : S1x1x1x2048x128.Idx), (y 3).val = (x 3).val → (y 4).val = (x 4).val →
    ((y 2).val = 0 → X y = k0_pay5 S w x) ∧ ((y 2).val = 1 → X y = k0_pay6 S w x)
    ∧ ((y 2).val = 2 → X y = k0_pay7 S w x) ∧ ((y 2).val = 3 → X y = k0_pay8 S w x)

/-- A store of one strip of rows into a whole scratch buffer. -/
theorem put_writes {arg : Memref sig .tc .vmem S2048x4096 .bf16} (harg : arg.IsWhole) (S : Vec F S2048x4096 .bf16)
    {off : Fin 2 → ℕ} {o : ℕ} (hoff : off = ![o, 0]) (inb : ∀ a, off a + S64x4096.size a ≤ S2048x4096.size a) (v : Vec F S64x4096 .bf16) :
    Put S (arg.view.read (Elt F) (arg.view.writes (Elt F) (harg.unread S)
      [(⟨Rect.unit (s := S2048x4096) off S64x4096.size inb, v⟩ : View.Piece (Elt F) S2048x4096 .bf16)])) o v := by
  constructor
  · intro y x h0 h1
    exact View.read_writes_cons_rows_of_mem arg.view _ inb v [] y x hoff h0 h1
  · intro y h
    refine (View.read_writes_cons_rows_of_not_mem arg.view _ inb v [] y hoff rfl h).trans ?_
    show arg.view.read (Elt F) (harg.unread S) y = S y
    rw [harg.read_unread]

/-- The four stores of one column group each leave the whole output block. -/
theorem out_writes {arg : Memref sig .tc .vmem S1x1x4x2048x128 .bf16} (f : arg.view.ty.Contents (Elt F)) (S : Vec F S2048x4096 .bf16) (w : Vec F S1x4096x512 .f32)
    (i0 : ∀ a, (![0, 0, 0, 0, 0] : Fin 5 → ℕ) a + S1x1x1x2048x128.size a ≤ S1x1x4x2048x128.size a)
    (i1 : ∀ a, (![0, 0, 1, 0, 0] : Fin 5 → ℕ) a + S1x1x1x2048x128.size a ≤ S1x1x4x2048x128.size a)
    (i2 : ∀ a, (![0, 0, 2, 0, 0] : Fin 5 → ℕ) a + S1x1x1x2048x128.size a ≤ S1x1x4x2048x128.size a)
    (i3 : ∀ a, (![0, 0, 3, 0, 0] : Fin 5 → ℕ) a + S1x1x1x2048x128.size a ≤ S1x1x4x2048x128.size a) :
    OutIs (arg.view.read (Elt F) (arg.view.writes (Elt F) f
      [(⟨Rect.unit (s := S1x1x4x2048x128) ![0, 0, 3, 0, 0] S1x1x1x2048x128.size i3, k0_pay8 S w⟩ : View.Piece (Elt F) S1x1x4x2048x128 .bf16),
       ⟨Rect.unit (s := S1x1x4x2048x128) ![0, 0, 2, 0, 0] S1x1x1x2048x128.size i2, k0_pay7 S w⟩,
       ⟨Rect.unit (s := S1x1x4x2048x128) ![0, 0, 1, 0, 0] S1x1x1x2048x128.size i1, k0_pay6 S w⟩,
       ⟨Rect.unit (s := S1x1x4x2048x128) ![0, 0, 0, 0, 0] S1x1x1x2048x128.size i0, k0_pay5 S w⟩])) S w := by
  intro y x h3 h4
  have y0 : (y 0).val = 0 := by have := (y 0).isLt; change (y 0).val < 1 at this; omega
  have y1 : (y 1).val = 0 := by have := (y 1).isLt; change (y 1).val < 1 at this; omega
  have x0 : (x 0).val = 0 := by have := (x 0).isLt; change (x 0).val < 1 at this; omega
  have x1 : (x 1).val = 0 := by have := (x 1).isLt; change (x 1).val < 1 at this; omega
  have x2 : (x 2).val = 0 := by have := (x 2).isLt; change (x 2).val < 1 at this; omega
  have hit : ∀ k : ℕ, (y 2).val = k → ∀ a : Fin 5, (y a).val = (![0, 0, k, 0, 0] : Fin 5 → ℕ) a + (x a).val := by
    intro k hk a
    match a with
    | ⟨0, _⟩ => show (y 0).val = 0 + (x 0).val; omega
    | ⟨1, _⟩ => show (y 1).val = 0 + (x 1).val; omega
    | ⟨2, _⟩ => show (y 2).val = k + (x 2).val; omega
    | ⟨3, _⟩ => show (y 3).val = 0 + (x 3).val; omega
    | ⟨4, _⟩ => show (y 4).val = 0 + (x 4).val; omega
  refine ⟨fun hk => ?_, fun hk => ?_, fun hk => ?_, fun hk => ?_⟩
  · rw [View.read_writes_cons_unit_of_not_mem _ _ i3 _ _ y rfl 2 (.inl (by show (y 2).val < 3; omega)),
      View.read_writes_cons_unit_of_not_mem _ _ i2 _ _ y rfl 2 (.inl (by show (y 2).val < 2; omega)),
      View.read_writes_cons_unit_of_not_mem _ _ i1 _ _ y rfl 2 (.inl (by show (y 2).val < 1; omega))]
    exact View.read_writes_cons_unit_of_mem _ _ i0 _ _ y x rfl (hit 0 hk)
  · rw [View.read_writes_cons_unit_of_not_mem _ _ i3 _ _ y rfl 2 (.inl (by show (y 2).val < 3; omega)),
      View.read_writes_cons_unit_of_not_mem _ _ i2 _ _ y rfl 2 (.inl (by show (y 2).val < 2; omega))]
    exact View.read_writes_cons_unit_of_mem _ _ i1 _ _ y x rfl (hit 1 hk)
  · rw [View.read_writes_cons_unit_of_not_mem _ _ i3 _ _ y rfl 2 (.inl (by show (y 2).val < 3; omega))]
    exact View.read_writes_cons_unit_of_mem _ _ i2 _ _ y x rfl (hit 2 hk)
  · exact View.read_writes_cons_unit_of_mem _ _ i3 _ _ y x rfl (hit 3 hk)

set_option maxHeartbeats 1000000 in
/-- The first row of the grid: only the normalisation, into the even scratch buffer. -/
theorem run_A (c : Dev nD) (i : grid0.Coords) (arg2 : Memref sig .tc .vmem S64x4096 .f32) (harg2 : arg2.IsWhole) (arg3 : Memref sig .tc .vmem S1x4096 .f32) (harg3 : arg3.IsWhole) (arg4 : Memref sig .tc .vmem S1x4096x512 .f32) (harg4 : arg4.IsWhole) (arg5 : Memref sig .tc .vmem S1x1x4x2048x128 .bf16) (harg5 : arg5.IsWhole) (arg6 : Memref sig .tc .vmem S2048x4096 .bf16) (harg6 : arg6.IsWhole) (arg7 : Memref sig .tc .vmem S2048x4096 .bf16) (harg7 : arg7.IsWhole)
    (hc0 : k0_cond1 i = 1#1) (hc1 : ¬k0_cond2 i = 1#1) (hc2 : ¬k0_cond3 i = 1#1)
    (x0 : Vec F S64x4096 .f32) (x1 : Vec F S1x4096 .f32) (x2 : Vec F S1x4096x512 .f32) (X : Vec F S1x1x4x2048x128 .bf16) (S0 S1 : Vec F S2048x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare X ∗ owns (c : Thread nD τ) arg6 fullShare S0 ∗ owns (c : Thread nD τ) arg7 fullShare S1
        ∗ (iprop(owns (c : Thread nD τ) arg2 fullShare x0 ∗ owns (c : Thread nD τ) arg3 fullShare x1 ∗ owns (c : Thread nD τ) arg4 fullShare x2 ∗ owns (c : Thread nD τ) arg5 fullShare X
            ∗ (∃ S', ⌜Put S0 S' (64 * (i 1).val) (k0_pay1 x0 x1)⌝ ∗ owns (c : Thread nD τ) arg6 fullShare S') ∗ owns (c : Thread nD τ) arg7 fullShare S1) -∗ K ⟨⟩))
      ⊢ wp frame (wpE (defs₀ (F := F)) Variants.none c none) E (cc0_norm_in_proj i arg2 harg2 arg3 harg3 arg4 harg4 arg5 harg5 arg6 harg6 arg7 harg7) K := by
  simp only [cc0_norm_in_proj_eq_skeleton]; unfold cc0_norm_in_proj_skel
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; swap
    · iexists _; isplitr; swap; · iexact HS0
      ipureintro; rfl
    ipureintro
    simp only [View.readAt_eq_ld, harg2.read_unread, harg3.read_unread, View.ld_unit_zero (S := S64x4096) hz2, View.ld_unit_zero (S := S1x4096) hz2]
    exact put_writes harg6 S0 (k0_off1_eq i) _ _
  iexists _; isplitr; · ipureintro; exact harg7.read_unread _
  iexact HS1

set_option maxHeartbeats 1000000 in
/-- An odd row of the grid: the product of the even scratch buffer, and the normalisation into the odd one. -/
theorem run_B (c : Dev nD) (i : grid0.Coords) (arg2 : Memref sig .tc .vmem S64x4096 .f32) (harg2 : arg2.IsWhole) (arg3 : Memref sig .tc .vmem S1x4096 .f32) (harg3 : arg3.IsWhole) (arg4 : Memref sig .tc .vmem S1x4096x512 .f32) (harg4 : arg4.IsWhole) (arg5 : Memref sig .tc .vmem S1x1x4x2048x128 .bf16) (harg5 : arg5.IsWhole) (arg6 : Memref sig .tc .vmem S2048x4096 .bf16) (harg6 : arg6.IsWhole) (arg7 : Memref sig .tc .vmem S2048x4096 .bf16) (harg7 : arg7.IsWhole)
    (hc0 : ¬k0_cond1 i = 1#1) (hc1 : k0_cond2 i = 1#1) (hc2 : ¬k0_cond3 i = 1#1)
    (x0 : Vec F S64x4096 .f32) (x1 : Vec F S1x4096 .f32) (x2 : Vec F S1x4096x512 .f32) (X : Vec F S1x1x4x2048x128 .bf16) (S0 S1 : Vec F S2048x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare X ∗ owns (c : Thread nD τ) arg6 fullShare S0 ∗ owns (c : Thread nD τ) arg7 fullShare S1
        ∗ (iprop(owns (c : Thread nD τ) arg2 fullShare x0 ∗ owns (c : Thread nD τ) arg3 fullShare x1 ∗ owns (c : Thread nD τ) arg4 fullShare x2 ∗ (∃ X', ⌜OutIs X' S0 x2⌝ ∗ owns (c : Thread nD τ) arg5 fullShare X')
            ∗ owns (c : Thread nD τ) arg6 fullShare S0 ∗ (∃ S', ⌜Put S1 S' (64 * (i 1).val) (k0_pay1 x0 x1)⌝ ∗ owns (c : Thread nD τ) arg7 fullShare S')) -∗ K ⟨⟩))
      ⊢ wp frame (wpE (defs₀ (F := F)) Variants.none c none) E (cc0_norm_in_proj i arg2 harg2 arg3 harg3 arg4 harg4 arg5 harg5 arg6 harg6 arg7 harg7) K := by
  simp only [cc0_norm_in_proj_eq_skeleton]; unfold cc0_norm_in_proj_skel
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexists _; isplitr; swap; · iexact H3
      ipureintro; rfl
    ipureintro
    simp only [View.readAt_eq_ld, harg4.read_unread, harg6.read_unread, harg7.read_unread, View.ld_unit_zero (S := S2048x4096) hz2, View.ld_unit_zero (S := S1x4096x512) hz3]
    exact out_writes _ _ _ _ _ _ _
  isplitl [HS0]
  · iexists _; isplitr; · ipureintro; exact harg6.read_unread _
    iexact HS0
  iexists _; isplitr; swap
  · iexists _; isplitr; swap; · iexact HS1
    ipureintro; rfl
  ipureintro
  sl_unfold_words
  simp only [View.readAt_eq_ld, harg2.read_unread, harg3.read_unread, View.ld_unit_zero (S := S64x4096) hz2, View.ld_unit_zero (S := S1x4096) hz2]
  exact put_writes harg7 S1 (k0_off2_eq i) _ (k0_pay1 x0 x1)

set_option maxHeartbeats 1000000 in
/-- An even row of the grid after the first: the product of the odd scratch buffer, and the normalisation into the even one. -/
theorem run_C (c : Dev nD) (i : grid0.Coords) (arg2 : Memref sig .tc .vmem S64x4096 .f32) (harg2 : arg2.IsWhole) (arg3 : Memref sig .tc .vmem S1x4096 .f32) (harg3 : arg3.IsWhole) (arg4 : Memref sig .tc .vmem S1x4096x512 .f32) (harg4 : arg4.IsWhole) (arg5 : Memref sig .tc .vmem S1x1x4x2048x128 .bf16) (harg5 : arg5.IsWhole) (arg6 : Memref sig .tc .vmem S2048x4096 .bf16) (harg6 : arg6.IsWhole) (arg7 : Memref sig .tc .vmem S2048x4096 .bf16) (harg7 : arg7.IsWhole)
    (hc0 : ¬k0_cond1 i = 1#1) (hc1 : ¬k0_cond2 i = 1#1) (hc2 : k0_cond3 i = 1#1)
    (x0 : Vec F S64x4096 .f32) (x1 : Vec F S1x4096 .f32) (x2 : Vec F S1x4096x512 .f32) (X : Vec F S1x1x4x2048x128 .bf16) (S0 S1 : Vec F S2048x4096 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare X ∗ owns (c : Thread nD τ) arg6 fullShare S0 ∗ owns (c : Thread nD τ) arg7 fullShare S1
        ∗ (iprop(owns (c : Thread nD τ) arg2 fullShare x0 ∗ owns (c : Thread nD τ) arg3 fullShare x1 ∗ owns (c : Thread nD τ) arg4 fullShare x2 ∗ (∃ X', ⌜OutIs X' S1 x2⌝ ∗ owns (c : Thread nD τ) arg5 fullShare X')
            ∗ (∃ S', ⌜Put S0 S' (64 * (i 1).val) (k0_pay1 x0 x1)⌝ ∗ owns (c : Thread nD τ) arg6 fullShare S') ∗ owns (c : Thread nD τ) arg7 fullShare S1) -∗ K ⟨⟩))
      ⊢ wp frame (wpE (defs₀ (F := F)) Variants.none c none) E (cc0_norm_in_proj i arg2 harg2 arg3 harg3 arg4 harg4 arg5 harg5 arg6 harg6 arg7 harg7) K := by
  simp only [cc0_norm_in_proj_eq_skeleton]; unfold cc0_norm_in_proj_skel
  unfold owns
  iintro ⟨⟨%f0, %hf0, H0⟩, ⟨%f1, %hf1, H1⟩, ⟨%f2, %hf2, H2⟩, ⟨%f3, %hf3, H3⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hs0; obtain rfl := harg7.eq_unread hs1
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap
    · iexists _; isplitr; swap; · iexact H3
      ipureintro; rfl
    ipureintro
    simp only [View.readAt_eq_ld, harg4.read_unread, harg6.read_unread, harg7.read_unread, View.ld_unit_zero (S := S2048x4096) hz2, View.ld_unit_zero (S := S1x4096x512) hz3]
    exact out_writes _ _ _ _ _ _ _
  isplitl [HS0]
  · iexists _; isplitr; swap
    · iexists _; isplitr; swap; · iexact HS0
      ipureintro; rfl
    ipureintro
    sl_unfold_words
    simp only [View.readAt_eq_ld, harg2.read_unread, harg3.read_unread, View.ld_unit_zero (S := S64x4096) hz2, View.ld_unit_zero (S := S1x4096) hz2]
    exact put_writes harg6 S0 (k0_off3_eq i) _ (k0_pay1 x0 x1)
  iexists _; isplitr; · ipureintro; exact harg7.read_unread _
  iexact HS1

end Cert.Kernel2Ideal.Own

end
-- ==== Proof.Norm.Frame.lean ====
/- The frame of the projection kernel with what it leaves in its result array, for any float interpretation: the two
   scratch buffers hold the normalised strips of this row of the grid and of the row before. -/
module

public import proofs.«01_k».proof.Proof.Norm.Run
public import Idealize.ShloMosaic.Lib.Pipeline.ArrRel
public import Idealize.ShloMosaic.Lib.Claim

@[expose] public section

set_option maxRecDepth 16384

noncomputable section

namespace Cert.Kernel2Ideal.Own

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the three branches over the points -/

theorem hcond1 : ∀ t : Fin cfg0.N, k0_cond1 (grid0.coords t) = 1#1 ↔ t.val < 32 :=
  (by decide +kernel : ∀ t : Fin grid0.N, k0_cond1 (grid0.coords t) = 1#1 ↔ t.val < 32)
theorem hcond2 : ∀ t : Fin cfg0.N, k0_cond2 (grid0.coords t) = 1#1 ↔ (32 ≤ t.val ∧ t.val / 32 % 2 = 1) :=
  (by decide +kernel : ∀ t : Fin grid0.N, k0_cond2 (grid0.coords t) = 1#1 ↔ (32 ≤ t.val ∧ t.val / 32 % 2 = 1))
theorem hcond3 : ∀ t : Fin cfg0.N, k0_cond3 (grid0.coords t) = 1#1 ↔ (32 ≤ t.val ∧ t.val / 32 % 2 = 0) :=
  (by decide +kernel : ∀ t : Fin grid0.N, k0_cond3 (grid0.coords t) = 1#1 ↔ (32 ≤ t.val ∧ t.val / 32 % 2 = 0))
theorem coord1 (t : Fin cfg0.N) : (grid0.coords t 1).val = t.val % 32 := by
  have h : (grid0.coords t 1).val = t.val / 1 % 32 := Pipeline.Grid.coords_val t 1 (by decide) rfl
  rw [h, Nat.div_one]

/-! ## The invariant -/

/-- The normalised strip of point `u`. -/
def strip (c : Dev nD) (u : Fin cfg0.N) : Vec F S64x4096 .bf16 := k0_pay1 (iblk m c 0 u) (iblk m c 1 u)

/-- Buffer `S` holds the strip of point `u` at the rows of that point. -/
def Holds (c : Dev nD) (S : Vec F S2048x4096 .bf16) (u : Fin cfg0.N) : Prop :=
  ∀ (y : S2048x4096.Idx) (x : S64x4096.Idx), (y 0).val = 64 * (u.val % 32) + (x 0).val → (y 1).val = (x 1).val → S y = strip m c u x

/-- Before point `t`: the points passed of this row of the grid and those of the row before have their strips in the
    buffer of their row's parity. -/
def Inv (c : Dev nD) (t : ℕ) (S0 S1 : Vec F S2048x4096 .bf16) : Prop :=
  ∀ u : Fin cfg0.N, u.val < t → t / 32 ≤ u.val / 32 + 1 →
    (u.val / 32 % 2 = 0 → Holds m c S0 u) ∧ (u.val / 32 % 2 = 1 → Holds m c S1 u)

/-- What a point after the first row leaves in the output block: the product of the strips of the row before and its weights. -/
def OutOk (c : Dev nD) (t : Fin cfg0.N) (X : Vec F S1x1x4x2048x128 .bf16) : Prop :=
  ∃ S, OutIs X S (iblk m c 2 t) ∧ ∀ u : Fin cfg0.N, u.val / 32 + 1 = t.val / 32 → Holds m c S u

/-- A stored strip is held, -/
theorem holds_put {c : Dev nD} {S S' : Vec F S2048x4096 .bf16} {t : Fin cfg0.N} (h : Put S S' (64 * (t.val % 32)) (strip m c t)) :
    Holds m c S' t := fun y x h0 h1 => h.1 y x h0 h1

/-- and the strips at other rows stay. -/
theorem holds_keep {c : Dev nD} {S S' : Vec F S2048x4096 .bf16} {o : ℕ} {v : Vec F S64x4096 .bf16} (h : Put S S' (64 * o) v) {u : Fin cfg0.N}
    (hu : u.val % 32 ≠ o) (hS : Holds m c S u) : Holds m c S' u := fun y x h0 h1 => by
  have hx : (x 0).val < 64 := (x 0).isLt
  rw [h.2 y (by omega)]
  exact hS y x h0 h1

theorem inv_even {c : Dev nD} {t : Fin cfg0.N} {S0 S1 S' : Vec F S2048x4096 .bf16} (h : Inv m c t.val S0 S1) (he : t.val / 32 % 2 = 0)
    (hp : Put S0 S' (64 * (t.val % 32)) (strip m c t)) : Inv m c (t.val + 1) S' S1 := fun u hu hd => by
  rcases Nat.lt_or_ge u.val t.val with hlt | hge
  · have hi := h u hlt (by omega)
    refine ⟨fun h0 => holds_keep m hp (by omega) (hi.1 h0), hi.2⟩
  · obtain rfl : u = t := Fin.ext (by omega)
    exact ⟨fun _ => holds_put m hp, fun h1 => by omega⟩

theorem inv_odd {c : Dev nD} {t : Fin cfg0.N} {S0 S1 S' : Vec F S2048x4096 .bf16} (h : Inv m c t.val S0 S1) (he : t.val / 32 % 2 = 1)
    (hp : Put S1 S' (64 * (t.val % 32)) (strip m c t)) : Inv m c (t.val + 1) S0 S' := fun u hu hd => by
  rcases Nat.lt_or_ge u.val t.val with hlt | hge
  · have hi := h u hlt (by omega)
    refine ⟨hi.1, fun h0 => holds_keep m hp (by omega) (hi.2 h0)⟩
  · obtain rfl : u = t := Fin.ext (by omega)
    exact ⟨fun h1 => by omega, fun _ => holds_put m hp⟩

theorem out_odd {c : Dev nD} {t : Fin cfg0.N} {S0 S1 : Vec F S2048x4096 .bf16} {X : Vec F S1x1x4x2048x128 .bf16} (h : Inv m c t.val S0 S1)
    (he : t.val / 32 % 2 = 1) (ho : OutIs X S0 (iblk m c 2 t)) : OutOk m c t X :=
  ⟨S0, ho, fun u hu => (h u (by omega) (by omega)).1 (by omega)⟩

theorem out_even {c : Dev nD} {t : Fin cfg0.N} {S0 S1 : Vec F S2048x4096 .bf16} {X : Vec F S1x1x4x2048x128 .bf16} (h : Inv m c t.val S0 S1)
    (he : t.val / 32 % 2 = 0) (ho : OutIs X S1 (iblk m c 2 t)) : OutOk m c t X :=
  ⟨S1, ho, fun u hu => (h u (by omega) (by omega)).2 (by omega)⟩

/-! ## The proof data -/

abbrev ms0 (t : Fin cfg0.N) : Memref sig .tc .vmem S64x4096 .f32 := win0_0.stage (cfg0.slots t 0)
abbrev ms1 (t : Fin cfg0.N) : Memref sig .tc .vmem S1x4096 .f32 := win0_1.stage (cfg0.slots t 1)
abbrev ms2 (t : Fin cfg0.N) : Memref sig .tc .vmem S1x4096x512 .f32 := win0_2.stage (cfg0.slots t 2)
abbrev ms3 (t : Fin cfg0.N) : Memref sig .tc .vmem S1x1x4x2048x128 .bf16 := win0_3.stage (cfg0.slots t 3)
abbrev sc0 : Memref sig .tc .vmem S2048x4096 .bf16 := Memref.whole cc0_scratch0
abbrev sc1 : Memref sig .tc .vmem S2048x4096 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The scratch buffers at contents that meet the invariant. -/
def Phi (c : Dev nD) (t : ℕ) : sProp 𝕄 :=
  iprop((∃ S0 S1, ⌜Inv m c t S0 S1⌝ ∗ owns (c : Thread nD τ) sc0 fullShare S0 ∗ owns (c : Thread nD τ) sc1 fullShare S1) ∗ (∃ r, prngReg c r))

/-- The window held to a predicate: the output. -/
def marked : Fin 4 → Bool := fun w => w.val == 3

def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ t := Phi m c t.val
  q _ := fullShare
  owed _ := 0

theorem A_eq (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem before0 (c : Dev nD) (t : Fin cfg0.N) (d) : (dat m c).before 0 t d = iblk m c 0 t :=
  before0_0_of m (dat m c) (A_eq m c 0) (after0 m c) t d
theorem before1 (c : Dev nD) (t : Fin cfg0.N) (d) : (dat m c).before 1 t d = iblk m c 1 t :=
  before0_1_of m (dat m c) (A_eq m c 1) (after1 m c) t d
theorem before2 (c : Dev nD) (t : Fin cfg0.N) (d) : (dat m c).before 2 t d = iblk m c 2 t :=
  before0_2_of m (dat m c) (A_eq m c 2) (after2 m c) t d

/-- What the output window is held to. -/
def Rl (c : Dev nD) (w : Fin cfg0.W) (t : Fin cfg0.N) : ((cfg0.win w).block.Idx → Elt F (cfg0.win w).elt) → Prop :=
  match w with
  | ⟨3, _⟩ => fun X => 32 ≤ t.val → OutOk m c t X
  | _ => fun _ => True

def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ Y, ⌜((dat m c).toRRel marked (Rl m c)).Finds 3 t Y⌝ ∗ owns (c : Thread nD τ) (ms3 t) fullShare Y))

def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ (∃ X : Vec F S1x1x4x2048x128 .bf16, ⌜32 ≤ t.val → OutOk m c t X⌝ ∗ owns (c : Thread nD τ) (ms3 t) fullShare X))

set_option maxHeartbeats 1200000 in
/-- The body at any point, by the parity of its row of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, after0, after1, after2]
  rw [show (dat m c).Φ t.succ = Phi m c (t.val + 1) from rfl, show (dat m c).Φ t.castSucc = Phi m c t.val from rfl,
    show (dat m c).owesAt () t.succ = (dat m c).owesAt () t.castSucc from rfl]
  unfold Phi
  iintro ⟨⟨⟨%S0, %S1, %hI, HS0, HS1⟩, Hg⟩, Ho, ⟨%d0, H0⟩, ⟨%d1, H1⟩, ⟨%d2, H2⟩, ⟨%Y, -, H3⟩⟩
  by_cases h0 : t.val < 32
  · iapply (run_A c (grid0.coords t) _ _ _ _ _ _ _ _ _ _ _ _ ((hcond1 t).mpr h0) (fun h => absurd ((hcond2 t).mp h).1 (by omega)) (fun h => absurd ((hcond3 t).mp h).1 (by omega)) (iblk m c 0 t) (iblk m c 1 t) (iblk m c 2 t) Y S0 S1 Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%S', %hp, HS0⟩, HS1⟩
    isplitl [HS0 HS1 Hg]
    · isplitl [HS0 HS1]
      · iexists S'; iexists S1
        isplitr
        · ipureintro
          rw [coord1] at hp
          exact inv_even m hI (by omega) hp
        isplitl [HS0]
        · iexact HS0
        iexact HS1
      iexact Hg
    isplitl [Ho]; · iexact Ho
    isplitl [H0]; · iexact H0
    isplitl [H1]; · iexact H1
    isplitl [H2]; · iexact H2
    iexists Y
    isplitr
    · ipureintro; intro h; omega
    iexact H3
  · by_cases h1 : t.val / 32 % 2 = 1
    · iapply (run_B c (grid0.coords t) _ _ _ _ _ _ _ _ _ _ _ _ (fun h => h0 ((hcond1 t).mp h)) ((hcond2 t).mpr ⟨by omega, h1⟩) (fun h => absurd ((hcond3 t).mp h).2 (by omega)) (iblk m c 0 t) (iblk m c 1 t) (iblk m c 2 t) Y S0 S1 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, ⟨%X', %hX, H3⟩, HS0, ⟨%S', %hp, HS1⟩⟩
      isplitl [HS0 HS1 Hg]
      · isplitl [HS0 HS1]
        · iexists S0; iexists S'
          isplitr
          · ipureintro
            rw [coord1] at hp
            exact inv_odd m hI h1 hp
          isplitl [HS0]
          · iexact HS0
          iexact HS1
        iexact Hg
      isplitl [Ho]; · iexact Ho
      isplitl [H0]; · iexact H0
      isplitl [H1]; · iexact H1
      isplitl [H2]; · iexact H2
      iexists X'
      isplitr
      · ipureintro; exact fun _ => out_odd m hI h1 hX
      iexact H3
    · iapply (run_C c (grid0.coords t) _ _ _ _ _ _ _ _ _ _ _ _ (fun h => h0 ((hcond1 t).mp h)) (fun h => h1 ((hcond2 t).mp h).2) ((hcond3 t).mpr ⟨by omega, by omega⟩) (iblk m c 0 t) (iblk m c 1 t) (iblk m c 2 t) Y S0 S1 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, ⟨%X', %hX, H3⟩, ⟨%S', %hp, HS0⟩, HS1⟩
      isplitl [HS0 HS1 Hg]
      · isplitl [HS0 HS1]
        · iexists S'; iexists S1
          isplitr
          · ipureintro
            rw [coord1] at hp
            exact inv_even m hI (by omega) hp
          isplitl [HS0]
          · iexact HS0
          iexact HS1
        iexact Hg
      isplitl [Ho]; · iexact Ho
      isplitl [H0]; · iexact H0
      isplitl [H1]; · iexact H1
      isplitl [H2]; · iexact H2
      iexists X'
      isplitr
      · ipureintro; exact fun _ => out_even m hI (by omega) hX
      iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dat (F := F) m c) (defs₀ (F := F)) Variants.none () Set.univ marked (Rl m c) := fun t => by
  rw [bigSep_W0, bigSep_W0, defs₀_row]
  exact triple_restated (sound_body m c t) rfl .rfl fun _ => .rfl

/-- The relational data. -/
def rdat (c : Dev nD) : Pipeline.RDat τ (Elt F) Unit ℕ (UR sig nD τ) ℕ cfg0 c := (dat m c).toRRel marked (Rl m c)

theorem phi_in (c : Dev nD) : (Pipeline.ΦA spec0 c : sProp 𝕄) ⊢ Phi m c 0 := by
  rw [PhiA_eq]; unfold Phi
  iintro ⟨⟨⟨%S0, HS0⟩, ⟨%S1, HS1⟩⟩, Hg⟩
  isplitl [HS0 HS1]
  · iexists S0; iexists S1
    isplitr
    · ipureintro; intro u hu; exact absurd hu (Nat.not_lt_zero _)
    isplitl [HS0]
    · iexact HS0
    iexact HS1
  iexact Hg

theorem phi_out (c : Dev nD) (n : ℕ) : Phi m c n ⊢ (Pipeline.ΦA spec0 c : sProp 𝕄) := by
  rw [PhiA_eq]; unfold Phi
  iintro ⟨⟨%S0, %S1, -, HS0, HS1⟩, Hg⟩
  isplitl [HS0 HS1]
  · isplitl [HS0]
    · iexists S0; iexact HS0
    iexists S1; iexact HS1
  iexact Hg

set_option backward.isDefEq.respectTransparency.types false in
/-- The launch: every execution ends with the arrays at what the relational data allow, every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ main
    (fun c => (body_obligation m c).toRRel) (fun c => (dat m c).share_full fun _ => rfl) (fun _ _ => rfl) (V m)
    (hmain m Variants.none) (fun c w => A_eq m c w) (phi_in m) (fun c => phi_out m c _) _ (fun _ h => h)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2)⟩, h.2⟩) (run_main m ρ)

end Cert.Kernel2Ideal.Own

end
-- ==== Proof.Norm.FrameBits.lean ====
/- The frame of the projection kernel as printed at machine words: nothing is said of what it leaves in its result. -/
module

public import proofs.«01_k».proof.Proof.Gen.Kernel2.Frame
public import proofs.«01_k».proof.Proof.Gen.Kernel2.Skeleton
public import Idealize.ShloMosaic.Lib.Claim

@[expose] public section

set_option maxRecDepth 16384

noncomputable section

namespace Cert.Kernel2.Own

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exactly one of the three branches runs at each point. -/
theorem hcases : ∀ t : Fin cfg0.N, (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) :=
  (by decide +kernel : ∀ t : Fin grid0.N, (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1))

abbrev ms0 (t : Fin cfg0.N) : Memref sig .tc .vmem S64x4096 .f32 := win0_0.stage (cfg0.slots t 0)
abbrev ms1 (t : Fin cfg0.N) : Memref sig .tc .vmem S1x4096 .f32 := win0_1.stage (cfg0.slots t 1)
abbrev ms2 (t : Fin cfg0.N) : Memref sig .tc .vmem S1x4096x512 .f32 := win0_2.stage (cfg0.slots t 2)
abbrev ms3 (t : Fin cfg0.N) : Memref sig .tc .vmem S1x1x4x2048x128 .bf16 := win0_3.stage (cfg0.slots t 3)
abbrev sc0 : Memref sig .tc .vmem S2048x4096 .bf16 := Memref.whole cc0_scratch0
abbrev sc1 : Memref sig .tc .vmem S2048x4096 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

set_option maxHeartbeats 2000000 in
/-- The body in whichever branch: the inputs stay, the output and the scratch end at some contents. -/
theorem run (c : Dev nD) (i : grid0.Coords) (arg2 : Memref sig .tc .vmem S64x4096 .f32) (harg2 : arg2.IsWhole) (arg3 : Memref sig .tc .vmem S1x4096 .f32) (harg3 : arg3.IsWhole) (arg4 : Memref sig .tc .vmem S1x4096x512 .f32) (harg4 : arg4.IsWhole) (arg5 : Memref sig .tc .vmem S1x1x4x2048x128 .bf16) (harg5 : arg5.IsWhole) (arg6 : Memref sig .tc .vmem S2048x4096 .bf16) (harg6 : arg6.IsWhole) (arg7 : Memref sig .tc .vmem S2048x4096 .bf16) (harg7 : arg7.IsWhole)
    (hc : (k0_cond1 i = 1#1 ∧ ¬k0_cond2 i = 1#1 ∧ ¬k0_cond3 i = 1#1) ∨ (¬k0_cond1 i = 1#1 ∧ k0_cond2 i = 1#1 ∧ ¬k0_cond3 i = 1#1)
      ∨ (¬k0_cond1 i = 1#1 ∧ ¬k0_cond2 i = 1#1 ∧ k0_cond3 i = 1#1))
    (x0 : Vec F S64x4096 .f32) (x1 : Vec F S1x4096 .f32) (x2 : Vec F S1x4096x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
      ⊢ wp frame (wpE (defs₀ (F := F)) Variants.none c none) E (cc0_norm_in_proj i arg2 harg2 arg3 harg3 arg4 harg4 arg5 harg5 arg6 harg6 arg7 harg7) K := by
  simp only [cc0_norm_in_proj_eq_skeleton]; unfold cc0_norm_in_proj_skel
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg2.eq_unread hf0; obtain rfl := harg3.eq_unread hf1; obtain rfl := harg4.eq_unread hf2
  rcases hc with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

/-- The output window, of which nothing is said. -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩⟩
  iapply (run c (grid0.coords t) _ _ _ _ _ _ _ _ _ _ _ _ (hcases t) (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What one grid point leaves in its buffers, at every point of the grid. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2)⟩, h.2⟩) (run_main_quiescent m ρ)

end Cert.Kernel2.Own

end
-- ==== Proof.Norm.Value.lean ====
/- The projection kernel's result array over the extended reals: each element is the sum, over the features, of the
   normalised row times the weight column, which is what the reference program writes there. -/
module

public import proofs.«01_k».proof.Proof.Norm.Frame
public import proofs.«01_k».proof.Proof.Gen.Reference2Ideal.Read
public import Idealize.ShloMosaic.PureOps.Ideal.Laws
public import Idealize.ShloMosaic.Lib.ValueIdx
public import Idealize.ShloMosaic.Lib.Pipeline.Value

@[expose] public section

set_option maxRecDepth 16384

noncomputable section

namespace Cert.Kernel2Ideal.Own

open Cert.Kernel2Ideal Cert.Kernel2Ideal.Gen
open Idealize.ShloMosaic Idealize.ShloMosaic.TcCoe Idealize.SL.Sem
open Idealize.ShloMosaic.ValueIdx (ix1 ix2 ix3)

/-! ## The payloads at an index -/

/-- The factor a row is scaled by: one over the root of its mean square plus a small constant. -/
def rowScale (f : Fin 4096 → EReal) : EReal :=
  FloatOps.rsqrt (F := Ideal) (φ := .f32) (FloatOps.divf (F := Ideal) (φ := .f32) (∑ k, f k * f k) (FloatOps.ofBits (F := Ideal) .f32 0x45800000#32)
    + FloatOps.ofBits (F := Ideal) .f32 0x358637BD#32)

/-- A normalised strip at an index. -/
theorem pay1_apply (x : Vec Ideal S64x4096 .f32) (nw : Vec Ideal S1x4096 .f32) (r : Fin 64) (d : Fin 4096) :
    k0_pay1 (F := Ideal) x nw (ix2 r d) = x (ix2 r d) * rowScale (fun k => x (ix2 r k)) * nw (ix2 (0 : Fin 1) d) := by
  unfold k0_pay1
  rw [shapeCast_self]
  refine congrArg₂ (fun a b : EReal => a * b) (congrArg (fun b : EReal => x (ix2 r d) * b) ?_) ?_
  · rw [broadcastTo_apply _ _ (ix2 r d) (ix2 r (0 : Fin 1)) (fun a => match a with | ⟨0, _⟩ => rfl | ⟨1, _⟩ => rfl)]
    unfold rowScale
    refine congrArg (fun s : EReal => FloatOps.rsqrt (F := Ideal) (φ := .f32) (FloatOps.divf (F := Ideal) (φ := .f32) s (FloatOps.ofBits (F := Ideal) .f32 0x45800000#32)
      + FloatOps.ofBits (F := Ideal) .f32 0x358637BD#32)) ?_
    refine (shapeCast_apply _ _ (ix2 r (0 : Fin 1)) (ix1 r) (by rewrite [Shape.rowMajor_val_one, Shape.rowMajor_val_two]; show r.val = r.val * 1 + 0; omega)).trans ?_
    refine (Ideal.multiReduction_add_single _ _ _ _ _ _).trans (Finset.sum_congr rfl fun k _ => ?_)
    have e : (reduces_S64x4096_S64).lift (ix1 r) k = ix2 r k := funext fun a => Fin.ext (by match a with | ⟨0, _⟩ => rfl | ⟨1, _⟩ => rfl)
    rw [e]; rfl
  · exact broadcastTo_apply _ _ (ix2 r d) (ix2 (0 : Fin 1) d) (fun a => match a with | ⟨0, _⟩ => rfl | ⟨1, _⟩ => rfl)

/-- The product of the normalised rows and a block of weights at an index. -/
theorem pay4_apply (S : Vec Ideal S2048x4096 .bf16) (w : Vec Ideal S1x4096x512 .f32) (r : Fin 2048) (e : Fin 512) :
    k0_pay4 (F := Ideal) S w (ix2 r e) = ∑ d : Fin 4096, S (ix2 r d) * w (ix3 (0 : Fin 1) d e) := by
  unfold k0_pay4
  refine (Ideal.matmul_constant_zero_apply dot_S2048x4096_S4096x512_S2048x512_1_0_0_1_n_n none _ _ _).trans ?_
  rw [← Equiv.sum_comp (ValueIdx.contrEquiv1 dot_S2048x4096_S4096x512_S2048x512_1_0_0_1_n_n 4096 rfl rfl).symm]
  refine Finset.sum_congr rfl fun k _ => ?_
  have hk := ValueIdx.contrEquiv1_symm_val dot_S2048x4096_S4096x512_S2048x512_1_0_0_1_n_n 4096 rfl rfl k
  have el : dot_S2048x4096_S4096x512_S2048x512_1_0_0_1_n_n.lhsIdx (ix2 r e) ((ValueIdx.contrEquiv1 dot_S2048x4096_S4096x512_S2048x512_1_0_0_1_n_n 4096 rfl rfl).symm k) = ix2 r k := funext fun a => Fin.ext (by
    match a with
    | ⟨0, _⟩ => rfl
    | ⟨1, _⟩ => exact (dot_S2048x4096_S4096x512_S2048x512_1_0_0_1_n_n.lhsIdx_val_of_single rfl _ _).trans hk)
  have er : dot_S2048x4096_S4096x512_S2048x512_1_0_0_1_n_n.rhsIdx (ix2 r e) ((ValueIdx.contrEquiv1 dot_S2048x4096_S4096x512_S2048x512_1_0_0_1_n_n 4096 rfl rfl).symm k) = ix2 k e := funext fun a => Fin.ext (by
    match a with
    | ⟨0, _⟩ => exact (dot_S2048x4096_S4096x512_S2048x512_1_0_0_1_n_n.rhsIdx_val_of_single rfl _ _).trans hk
    | ⟨1, _⟩ => rfl)
  rw [el, er]
  refine congrArg (fun b : EReal => S (ix2 r k) * b) ?_
  exact shapeCast_apply w shapeCasts_S1x4096x512_S4096x512 (ix2 k e) (ix3 (0 : Fin 1) k e)
    (by rewrite [Shape.rowMajor_val_three, Shape.rowMajor_val_two]; show (0 * 4096 + k.val) * 512 + e.val = k.val * 512 + e.val; omega)

/-- A column group cut out of a block and given three leading axes of extent one, at an index. -/
theorem group_apply (o : ℕ) (y : Vec Ideal S2048x512 .f32) (hs : S2048x512.Slices ![0, o] S2048x128) (hc : S2048x128.ShapeCasts S1x1x1x2048x128)
    (hb) (x : S1x1x1x2048x128.Idx) (e : Fin 512) (he : e.val = o + (x 4).val) :
    shapeCast S1x1x1x2048x128 (truncf (F := Ideal) .bf16 (extractStridedSlice S2048x128 ![0, o] y hs : FVec Ideal S2048x128 .f32) hb) hc x = y (ix2 (x 3 : Fin 2048) e) := by
  have x0 : (x 0).val = 0 := by have := (x 0).isLt; change (x 0).val < 1 at this; omega
  have x1 : (x 1).val = 0 := by have := (x 1).isLt; change (x 1).val < 1 at this; omega
  have x2 : (x 2).val = 0 := by have := (x 2).isLt; change (x 2).val < 1 at this; omega
  refine (shapeCast_apply _ hc x (ix2 (x 3 : Fin 2048) (x 4 : Fin 128)) ?_).trans ?_
  · rewrite [Shape.rowMajor_val_two, Shape.rowMajor_val_five]
    show (x 3).val * 128 + (x 4).val = ((((x 0).val * 1 + (x 1).val) * 1 + (x 2).val) * 2048 + (x 3).val) * 128 + (x 4).val
    rw [x0, x1, x2]; omega
  · exact extractStridedSlice_apply _ y hs (ix2 (x 3 : Fin 2048) (x 4 : Fin 128)) (ix2 (x 3 : Fin 2048) e)
      (fun a => match a with | ⟨0, _⟩ => (Nat.zero_add _).symm | ⟨1, _⟩ => he)

/-- The output block at an index: the sum over the features of the scratch row times the weight column. -/
theorem out_apply {X : Vec Ideal S1x1x4x2048x128 .bf16} {S : Vec Ideal S2048x4096 .bf16} {w : Vec Ideal S1x4096x512 .f32} (h : OutIs X S w)
    (y : S1x1x4x2048x128.Idx) (e : Fin 512) (he : e.val = 128 * (y 2).val + (y 4).val) :
    X y = ∑ d : Fin 4096, S (ix2 (y 3 : Fin 2048) d) * w (ix3 (0 : Fin 1) d e) := by
  have y2 : (y 2).val < 4 := (y 2).isLt
  let x : S1x1x1x2048x128.Idx := fun a => match a with
    | ⟨0, _⟩ => (⟨0, Nat.one_pos⟩ : Fin 1) | ⟨1, _⟩ => (⟨0, Nat.one_pos⟩ : Fin 1) | ⟨2, _⟩ => (⟨0, Nat.one_pos⟩ : Fin 1)
    | ⟨3, _⟩ => (y 3 : Fin 2048) | ⟨4, _⟩ => (y 4 : Fin 128)
  obtain ⟨h0, h1, h2, h3⟩ := h y x rfl rfl
  refine Eq.trans ?_ (pay4_apply S w (y 3 : Fin 2048) e)
  have hx4 : (x 4).val = (y 4).val := rfl
  rcases (by omega : (y 2).val = 0 ∨ (y 2).val = 1 ∨ (y 2).val = 2 ∨ (y 2).val = 3) with hk | hk | hk | hk
  · exact (h0 hk).trans (group_apply 0 _ _ _ _ x e (by omega))
  · exact (h1 hk).trans (group_apply 128 _ _ _ _ x e (by omega))
  · exact (h2 hk).trans (group_apply 256 _ _ _ _ x e (by omega))
  · exact (h3 hk).trans (group_apply 384 _ _ _ _ x e (by omega))

/-! ## The reference's result at an index -/

/-- The normalised row of the reference. -/
theorem ref_row (x : Vec Ideal S16384x4096 .f32) (nw : Vec Ideal S1x4096 .f32) (i : S16384x4096.Idx) (r : Fin 16384) (d : Fin 4096)
    (h0 : (i 0).val = r.val) (h1 : (i 1).val = d.val) :
    Cert.Reference2Ideal.Read.val_main_v13 (F := Ideal) x nw i = x (ix2 r d) * rowScale (fun k => x (ix2 r k)) * nw (ix2 (0 : Fin 1) d) := by
  obtain rfl : i = ix2 r d := funext fun a => Fin.ext (by match a with | ⟨0, _⟩ => exact h0 | ⟨1, _⟩ => exact h1)
  rw [Cert.Reference2Ideal.Read.val_main_v13_apply, Cert.Reference2Ideal.Read.val_main_v10_apply]
  refine congrArg₂ (fun a b : EReal => a * b) (congrArg (fun b : EReal => x (ix2 r d) * b) ?_) ?_
  · rw [Cert.Reference2Ideal.Read.val_main_v9_apply, Cert.Reference2Ideal.Read.val_main_v8_apply, Cert.Reference2Ideal.Read.val_main_v7_apply,
      Cert.Reference2Ideal.Read.val_main_v5_apply, Cert.Reference2Ideal.Read.val_main_v3_apply, Cert.Reference2Ideal.Read.val_main_v2_apply,
      Cert.Reference2Ideal.Read.val_main_v4_apply, Cert.Reference2Ideal.Read.val_main_v6_apply]
    unfold rowScale
    refine congrArg (fun s : EReal => FloatOps.rsqrt (F := Ideal) (φ := .f32) (FloatOps.divf (F := Ideal) (φ := .f32) s (FloatOps.ofBits (F := Ideal) .f32 0x45800000#32)
      + FloatOps.ofBits (F := Ideal) .f32 0x358637BD#32)) ?_
    refine (congrArg (fun z : EReal => z + _) (Ideal.ofBits_zero_f32)).trans ((zero_add _).trans (Finset.sum_congr rfl fun k _ => ?_))
    rw [Cert.Reference2Ideal.Read.val_main_v1_apply]
    have e : Cert.Reference2Ideal.Read.idx_main_v2 (Cert.Reference2Ideal.Read.idx_main_v3 (Cert.Reference2Ideal.Read.idx_main_v9 (ix2 r d))) k = ix2 r k := funext fun a => Fin.ext (by match a with | ⟨0, _⟩ => rfl | ⟨1, _⟩ => rfl)
    rw [e]; rfl
  · rw [Cert.Reference2Ideal.Read.val_main_v12_apply, Cert.Reference2Ideal.Read.val_main_v11_apply, Cert.Reference2Ideal.Read.val_main_v0_apply]
    exact congrArg nw (funext fun a => Fin.ext (by match a with | ⟨0, _⟩ => rfl | ⟨1, _⟩ => exact Nat.mod_eq_of_lt d.isLt))

/-- The reference's result at an index. -/
theorem ref_apply (x : Vec Ideal S16384x4096 .f32) (nw : Vec Ideal S1x4096 .f32) (w : Vec Ideal S1x4096x16384 .f32) (i : S4x8x4x16384x128.Idx)
    (r : Fin 16384) (e : Fin 16384) (hr : (i 3).val = r.val) (he : (((i 1).val * 4 + (i 0).val) * 4 + (i 2).val) * 128 + (i 4).val = e.val) :
    Cert.Reference2Ideal.Read.val_main_v18 (F := Ideal) x nw w i
      = ∑ d : Fin 4096, (x (ix2 r d) * rowScale (fun k => x (ix2 r k)) * nw (ix2 (0 : Fin 1) d)) * w (ix3 (0 : Fin 1) d e) := by
  have i0 : (i 0).val < 4 := (i 0).isLt
  have i1 : (i 1).val < 8 := (i 1).isLt
  have i2 : (i 2).val < 4 := (i 2).isLt
  have i4 : (i 4).val < 128 := (i 4).isLt
  rw [Cert.Reference2Ideal.Read.val_main_v18_apply, Cert.Reference2Ideal.Read.val_main_v17_apply, Cert.Reference2Ideal.Read.val_main_v16_apply]
  refine (Cert.Reference2Ideal.Read.val_main_v15_apply x nw w _).trans (Finset.sum_congr rfl fun d _ => ?_)
  have hpos : ∀ q : ℕ, q = ((((i 3).val * 8 + (i 1).val) * 4 + (i 0).val) * 4 + (i 2).val) * 128 + (i 4).val → q / 16384 = r.val ∧ q % 16384 = e.val := by
    intro q hq; constructor <;> omega
  rw [ref_row x nw _ r d (hpos _ rfl).1 rfl, Cert.Reference2Ideal.Read.val_main_v14_apply]
  refine congrArg (fun b : EReal => _ * b) (congrArg w (funext fun a => Fin.ext ?_))
  have hd := d.isLt
  have hq := (hpos _ rfl).2
  match a with
  | ⟨0, _⟩ => rfl
  | ⟨1, _⟩ =>
    show (d.val * 16384 + _ % 16384) / 16384 % 4096 = d.val
    rw [hq]; have := e.isLt; omega
  | ⟨2, _⟩ =>
    show (d.val * 16384 + _ % 16384) % 16384 = e.val
    rw [hq]; have := e.isLt; omega

/-! ## The blocks in their arrays -/

theorem index0 : ∀ t : Fin cfg0.N, t.val < 256 → cc0_transform_0 (grid0.coords t) = ![t.val, 0] :=
  (by decide +kernel : ∀ t : Fin grid0.N, t.val < 256 → cc0_transform_0 (grid0.coords t) = ![t.val, 0])
theorem index2 : ∀ t : Fin cfg0.N, 32 ≤ t.val → cc0_transform_2 (grid0.coords t) = ![0, 0, t.val % 32] :=
  (by decide +kernel : ∀ t : Fin grid0.N, 32 ≤ t.val → cc0_transform_2 (grid0.coords t) = ![0, 0, t.val % 32])
theorem index3 : ∀ t : Fin cfg0.N, 32 ≤ t.val → cc0_transform_3 (grid0.coords t) = ![t.val % 32 % 4, t.val % 32 / 4, 0, t.val / 32 - 1, 0] :=
  (by decide +kernel : ∀ t : Fin grid0.N, 32 ≤ t.val → cc0_transform_3 (grid0.coords t) = ![t.val % 32 % 4, t.val % 32 / 4, 0, t.val / 32 - 1, 0])
theorem flush3 : ∀ t : Fin cfg0.N, (cfg0.win 3).flush t = true ↔ 32 ≤ t.val :=
  (by decide +kernel : ∀ t : Fin grid0.N, (cfg0.win 3).flush t = true ↔ 32 ≤ t.val)

variable (m : (ℓ : Loc nD τ sig) → Buf (Elt Ideal) ℓ) (ρ : Dev nD → PrngReg)

/-- The block of rows of point `u` is rows `64 u` to `64 u + 63` of the array. -/
theorem iblk0_apply (c : Dev nD) (u : Fin cfg0.N) (hu : u.val < 256) (r : Fin 64) (d : Fin 4096) (R : Fin 16384) (hR : R.val = 64 * u.val + r.val) :
    iblk m c 0 u (ix2 r d) = m ((c : Thread nD τ).loc main_arg0) (ix2 R d) := by
  refine congrArg (m ((c : Thread nD τ).loc main_arg0)) (funext fun a => Fin.ext ?_)
  refine (Pipeline.Window.rect_emb_val win0_0 u (ix2 r d) a).trans ?_
  have hi : win0_0.index u a = (![u.val, 0] : Fin 2 → ℕ) a := congrFun (index0 u hu) a
  rw [hi]
  match a with
  | ⟨0, _⟩ => show u.val * 64 + r.val = R.val; omega
  | ⟨1, _⟩ => show 0 * 4096 + d.val = d.val; omega

/-- The block of norm weights is the array. -/
theorem iblk1_apply (c : Dev nD) (u : Fin cfg0.N) (d : Fin 4096) :
    iblk m c 1 u (ix2 (0 : Fin 1) d) = m ((c : Thread nD τ).loc main_arg1) (ix2 (0 : Fin 1) d) := by
  refine congrArg (m ((c : Thread nD τ).loc main_arg1)) (funext fun a => Fin.ext ?_)
  refine (Pipeline.Window.rect_emb_val win0_1 u (ix2 (0 : Fin 1) d) a).trans ?_
  match a with
  | ⟨0, _⟩ => rfl
  | ⟨1, _⟩ => show 0 * 4096 + d.val = d.val; omega

/-- The block of weights of point `t`. -/
theorem iblk2_apply (c : Dev nD) (t : Fin cfg0.N) (ht : 32 ≤ t.val) (d : Fin 4096) (e : Fin 512) (E : Fin 16384) (hE : E.val = 512 * (t.val % 32) + e.val) :
    iblk m c 2 t (ix3 (0 : Fin 1) d e) = m ((c : Thread nD τ).loc main_arg2) (ix3 (0 : Fin 1) d E) := by
  refine congrArg (m ((c : Thread nD τ).loc main_arg2)) (funext fun a => Fin.ext ?_)
  refine (Pipeline.Window.rect_emb_val win0_2 t (ix3 (0 : Fin 1) d e) a).trans ?_
  have hi : win0_2.index t a = (![0, 0, t.val % 32] : Fin 3 → ℕ) a := congrFun (index2 t ht) a
  rw [hi]
  match a with
  | ⟨0, _⟩ => rfl
  | ⟨1, _⟩ => show 0 * 4096 + d.val = d.val; omega
  | ⟨2, _⟩ => show t.val % 32 * 512 + e.val = E.val; omega

/-- The whole result array: the reference's value of the three arguments. -/
abbrev goal (c : Dev nD) : Vec Ideal S4x8x4x16384x128 .bf16 :=
  Cert.Reference2Ideal.Read.val_main_v18 (F := Ideal) (m ((c : Thread nD τ).loc main_arg0)) (m ((c : Thread nD τ).loc main_arg1)) (m ((c : Thread nD τ).loc main_arg2))

/-- What a point after the first row leaves in the output block is the reference's value under that block. -/
theorem outOk_apply {c : Dev nD} {t : Fin cfg0.N} (ht : 32 ≤ t.val) {X : Vec Ideal S1x1x4x2048x128 .bf16} (h : OutOk m c t X)
    (y : S1x1x4x2048x128.Idx) (i : S4x8x4x16384x128.Idx)
    (hi : ∀ a, (i a).val = (![t.val % 32 % 4, t.val % 32 / 4, 0, t.val / 32 - 1, 0] : Fin 5 → ℕ) a * S1x1x4x2048x128.size a + (y a).val) :
    X y = goal m c i := by
  have hN : t.val < 288 := lt_of_lt_of_eq t.isLt N_0
  have y0 : (y 0).val < 1 := (y 0).isLt
  have y1 : (y 1).val < 1 := (y 1).isLt
  have y2 : (y 2).val < 4 := (y 2).isLt
  have y3 : (y 3).val < 2048 := (y 3).isLt
  have y4 : (y 4).val < 128 := (y 4).isLt
  have i0 : (i 0).val = t.val % 32 % 4 * 1 + (y 0).val := hi 0
  have i1 : (i 1).val = t.val % 32 / 4 * 1 + (y 1).val := hi 1
  have i2 : (i 2).val = 0 * 4 + (y 2).val := hi 2
  have i3 : (i 3).val = (t.val / 32 - 1) * 2048 + (y 3).val := hi 3
  have i4 : (i 4).val = 0 * 128 + (y 4).val := hi 4
  obtain ⟨S, hS, hrow⟩ := h
  let e : Fin 512 := ⟨128 * (y 2).val + (y 4).val, by omega⟩
  let E : Fin 16384 := ⟨512 * (t.val % 32) + e.val, by have : e.val < 512 := e.isLt; omega⟩
  let R : Fin 16384 := ⟨(t.val / 32 - 1) * 2048 + (y 3).val, by omega⟩
  let u : Fin cfg0.N := ⟨32 * (t.val / 32 - 1) + (y 3).val / 64, by show _ < grid0.N; rw [N_0]; omega⟩
  let r : Fin 64 := ⟨(y 3).val % 64, by omega⟩
  have hu : u.val = 32 * (t.val / 32 - 1) + (y 3).val / 64 := rfl
  have hr : r.val = (y 3).val % 64 := rfl
  have hR : R.val = (t.val / 32 - 1) * 2048 + (y 3).val := rfl
  have hE : E.val = 512 * (t.val % 32) + (128 * (y 2).val + (y 4).val) := rfl
  refine (out_apply hS y e rfl).trans (Eq.trans ?_ (ref_apply _ _ _ i R E (by omega) (by omega)).symm)
  refine Finset.sum_congr rfl fun d _ => ?_
  rw [iblk2_apply m c t ht d e E rfl]
  refine congrArg (fun b : EReal => b * _) ?_
  refine (hrow u (by omega) (ix2 (y 3 : Fin 2048) d) (ix2 r d) (by show (y 3).val = 64 * (u.val % 32) + r.val; omega) rfl).trans ?_
  refine (pay1_apply _ _ r d).trans ?_
  rw [iblk1_apply]
  have hx : ∀ k : Fin 4096, iblk m c 0 u (ix2 r k) = m ((c : Thread nD τ).loc main_arg0) (ix2 R k) := fun k =>
    iblk0_apply m c u (by omega) r k R (by omega)
  rw [hx d, show (fun k => iblk m c 0 u (ix2 r k)) = fun k => m ((c : Thread nD τ).loc main_arg0) (ix2 R k) from funext hx]

/-- Every element of the result array is in the block of a point that is written back. -/
theorem cover (c : Dev nD) (i : S4x8x4x16384x128.Idx) : ∃ t : Fin cfg0.N, (cfg0.win 3).flush t = true ∧ i ∈ ((cfg0.win 3).blk t).view.set := by
  have i0 : (i 0).val < 4 := (i 0).isLt
  have i1 : (i 1).val < 8 := (i 1).isLt
  have i2 : (i 2).val < 4 := (i 2).isLt
  have i3 : (i 3).val < 16384 := (i 3).isLt
  have i4 : (i 4).val < 128 := (i 4).isLt
  obtain ⟨t, ht⟩ : ∃ t : Fin cfg0.N, t.val = 32 * ((i 3).val / 2048 + 1) + (4 * (i 1).val + (i 0).val) :=
    ⟨⟨32 * ((i 3).val / 2048 + 1) + (4 * (i 1).val + (i 0).val), by show _ < grid0.N; rw [N_0]; omega⟩, rfl⟩
  have h32 : 32 ≤ t.val := by omega
  have key : ∀ a : Fin 5, (![t.val % 32 % 4, t.val % 32 / 4, 0, t.val / 32 - 1, 0] : Fin 5 → ℕ) a * (![1, 1, 4, 2048, 128] : Fin 5 → ℕ) a ≤ (i a).val
      ∧ (i a).val < (![t.val % 32 % 4, t.val % 32 / 4, 0, t.val / 32 - 1, 0] : Fin 5 → ℕ) a * (![1, 1, 4, 2048, 128] : Fin 5 → ℕ) a + (![1, 1, 4, 2048, 128] : Fin 5 → ℕ) a := by
    intro a
    match a with
    | ⟨0, _⟩ => show t.val % 32 % 4 * 1 ≤ (i 0).val ∧ (i 0).val < t.val % 32 % 4 * 1 + 1; omega
    | ⟨1, _⟩ => show t.val % 32 / 4 * 1 ≤ (i 1).val ∧ (i 1).val < t.val % 32 / 4 * 1 + 1; omega
    | ⟨2, _⟩ => show 0 * 4 ≤ (i 2).val ∧ (i 2).val < 0 * 4 + 4; omega
    | ⟨3, _⟩ => show (t.val / 32 - 1) * 2048 ≤ (i 3).val ∧ (i 3).val < (t.val / 32 - 1) * 2048 + 2048; omega
    | ⟨4, _⟩ => show 0 * 128 ≤ (i 4).val ∧ (i 4).val < 0 * 128 + 128; omega
  rw [← index3 t h32] at key
  refine ⟨t, (flush3 t).mpr h32, ?_⟩
  show i ∈ ((View.whole main_v0).slice (win0_3.rect t)).set
  rw [View.set_slice_whole, Rect.mem_set_unit]
  exact key

/-- The kernel's run: the result array ends at the reference's value of the arguments, which end unchanged. -/
theorem run_value : θ_run (defs (F := Ideal)) (onTc (τ := τ) (main (F := Ideal))) ⟨m, fun _ => 0, ρ⟩ (fun r => ∀ c : Dev nD,
      r.2.mem ((c.tc : Thread nD τ).loc main_v0) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hl, hmem⟩ := Pipeline.RDat.FramePost.exists_exact h.1 c
    refine ⟨(hmem 3).trans ?_, (Pipeline.RDat.FramePost.arr_in h.1 c 0 rfl).trans (A_eq m c 0),
      (Pipeline.RDat.FramePost.arr_in h.1 c 1 rfl).trans (A_eq m c 1), (Pipeline.RDat.FramePost.arr_in h.1 c 2 rfl).trans (A_eq m c 2)⟩
    refine Pipeline.Dat.arrAt_eq_of_emb ((rdat m c).withAfter after) 3 _ (fun t hf y => ?_) (cover c)
    have ht : 32 ≤ t.val := (flush3 t).mp hf
    have hR : Rl m c 3 t (after 3 t) := Pipeline.Dat.toRRel_leaves (dat := dat m c) (Rl := Rl m c) (fgt := marked) rfl (hl 3 t hf)
    refine outOk_apply m ht (X := after 3 t) (hR ht) y (((cfg0.win 3).blk t).view.emb y) fun a => ?_
    refine (Pipeline.Window.rect_emb_val win0_3 t y a).trans ?_
    rw [show win0_3.index t a = (![t.val % 32 % 4, t.val % 32 / 4, 0, t.val / 32 - 1, 0] : Fin 5 → ℕ) a from congrFun (index3 t ht) a]) (run_main m ρ)

/-- The projection kernel and its reference end with the same result over the extended reals. -/
theorem algebraic (m' : (ℓ : Loc Cert.Reference2Ideal.nD Cert.Reference2Ideal.τ Cert.Reference2Ideal.sig) → Buf (Elt Ideal) ℓ)
    (ρ' : Dev Cert.Reference2Ideal.nD → PrngReg)
    (hm : ∀ c : Dev nD,
      m' ((c.tc : Thread Cert.Reference2Ideal.nD Cert.Reference2Ideal.τ).loc Cert.Reference2Ideal.main_arg0) = m ((c.tc : Thread nD τ).loc main_arg0)
      ∧ m' ((c.tc : Thread Cert.Reference2Ideal.nD Cert.Reference2Ideal.τ).loc Cert.Reference2Ideal.main_arg1) = m ((c.tc : Thread nD τ).loc main_arg1)
      ∧ m' ((c.tc : Thread Cert.Reference2Ideal.nD Cert.Reference2Ideal.τ).loc Cert.Reference2Ideal.main_arg2) = m ((c.tc : Thread nD τ).loc main_arg2)) :
    θ_run (Cert.Reference2Ideal.defs (F := Ideal)) (onTc (τ := Cert.Reference2Ideal.τ) (Cert.Reference2Ideal.main (F := Ideal))) ⟨m', fun _ => 0, ρ'⟩
      (fun r => ∀ c : Dev Cert.Reference2Ideal.nD,
        r.2.mem ((c.tc : Thread Cert.Reference2Ideal.nD Cert.Reference2Ideal.τ).loc Cert.Reference2Ideal.main_v18) = goal m c
        ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)) :=
  (θ_run Cert.Reference2Ideal.defs _ _).mono (fun r h c => ⟨by
      obtain ⟨e0, e1, e2⟩ := hm c
      refine (h c).1.trans ((Cert.Reference2Ideal.Read.val_main_v18_eq (F := Ideal) _ _ _).trans ?_)
      unfold goal
      rw [e0, e1, e2], (h c).2⟩) (Cert.Reference2Ideal.Value.run (F := Ideal) m' ρ')

end Cert.Kernel2Ideal.Own

end
-- ==== Proof.Out.Pay.lean ====
/- The values the output kernel computes at one grid point, read at an index over the extended reals. -/
module

public import proofs.«01_k».proof.Proof.Gen.Kernel3Ideal.Skeleton
public import Idealize.ShloMosaic.PureOps.Ideal.Laws
public import Idealize.ShloMosaic.Lib.ValueIdx
public import Idealize.ShloMosaic.Lib.Pipeline.Value
public import Idealize.ShloMosaic.Lib.Pipeline.FrameBody

@[expose] public section

set_option maxRecDepth 16384

noncomputable section

namespace Cert.Kernel3Ideal.Own

open Cert.Kernel3Ideal Cert.Kernel3Ideal.Gen
open Idealize.ShloMosaic Idealize.ShloMosaic.TcCoe Idealize.SL.Sem
open Idealize.ShloMosaic.ValueIdx (ix1 ix2 ix3)

/-- One head cut out of a block of eight heads, at an index. -/
theorem head_apply (x : Vec Ideal S8x512x128 .bf16) (k : ℕ) (hk : k < 8)
    (inb : ∀ a, (![k, 0, 0] : Fin 3 → ℕ) a + S1x512x128.size a ≤ S8x512x128.size a) (hc : S1x512x128.ShapeCasts S512x128) (r : Fin 512) (c : Fin 128) :
    shapeCast S512x128 (View.ld (Val := Elt Ideal) (e' := .bf16) x (Rect.unit (s := S8x512x128) ![k, 0, 0] S1x512x128.size inb)) hc (ix2 r c) = x (ix3 (⟨k, hk⟩ : Fin 8) r c) := by
  refine (shapeCast_apply _ hc (ix2 r c) (ix3 (0 : Fin 1) r c) ?_).trans ?_
  · rewrite [Shape.rowMajor_val_three, Shape.rowMajor_val_two]; show (0 * 512 + r.val) * 128 + c.val = r.val * 128 + c.val; omega
  · refine congrArg x (funext fun a => Fin.ext ?_)
    match a with
    | ⟨0, _⟩ => show k + 1 * 0 = k; omega
    | ⟨1, _⟩ => show 0 + 1 * r.val = r.val; omega
    | ⟨2, _⟩ => show 0 + 1 * c.val = c.val; omega

/-- The eight heads of a block side by side, at an index. -/
theorem heads_apply (x : Vec Ideal S8x512x128 .bf16) (r : Fin 512) (e : Fin 1024) :
    concatenate S512x1024 1 [
      ⟨S512x128, shapeCast S512x128 (View.ld (Val := Elt Ideal) (e' := .bf16) x (Rect.unit (s := S8x512x128) ![0, 0, 0] S1x512x128.size inb_S8x512x128_S1x512x128_0_0_0)) shapeCasts_S1x512x128_S512x128⟩,
      ⟨S512x128, shapeCast S512x128 (View.ld (Val := Elt Ideal) (e' := .bf16) x (Rect.unit (s := S8x512x128) ![1, 0, 0] S1x512x128.size inb_S8x512x128_S1x512x128_1_0_0)) shapeCasts_S1x512x128_S512x128⟩,
      ⟨S512x128, shapeCast S512x128 (View.ld (Val := Elt Ideal) (e' := .bf16) x (Rect.unit (s := S8x512x128) ![2, 0, 0] S1x512x128.size inb_S8x512x128_S1x512x128_2_0_0)) shapeCasts_S1x512x128_S512x128⟩,
      ⟨S512x128, shapeCast S512x128 (View.ld (Val := Elt Ideal) (e' := .bf16) x (Rect.unit (s := S8x512x128) ![3, 0, 0] S1x512x128.size inb_S8x512x128_S1x512x128_3_0_0)) shapeCasts_S1x512x128_S512x128⟩,
      ⟨S512x128, shapeCast S512x128 (View.ld (Val := Elt Ideal) (e' := .bf16) x (Rect.unit (s := S8x512x128) ![4, 0, 0] S1x512x128.size inb_S8x512x128_S1x512x128_4_0_0)) shapeCasts_S1x512x128_S512x128⟩,
      ⟨S512x128, shapeCast S512x128 (View.ld (Val := Elt Ideal) (e' := .bf16) x (Rect.unit (s := S8x512x128) ![5, 0, 0] S1x512x128.size inb_S8x512x128_S1x512x128_5_0_0)) shapeCasts_S1x512x128_S512x128⟩,
      ⟨S512x128, shapeCast S512x128 (View.ld (Val := Elt Ideal) (e' := .bf16) x (Rect.unit (s := S8x512x128) ![6, 0, 0] S1x512x128.size inb_S8x512x128_S1x512x128_6_0_0)) shapeCasts_S1x512x128_S512x128⟩,
      ⟨S512x128, shapeCast S512x128 (View.ld (Val := Elt Ideal) (e' := .bf16) x (Rect.unit (s := S8x512x128) ![7, 0, 0] S1x512x128.size inb_S8x512x128_S1x512x128_7_0_0)) shapeCasts_S1x512x128_S512x128⟩]
      concatenates_S512x128_S512x128_S512x128_S512x128_S512x128_S512x128_S512x128_S512x128_S512x1024_d1 (ix2 r e)
      = x (ix3 (⟨e.val / 128, by have := e.isLt; omega⟩ : Fin 8) r (⟨e.val % 128, by omega⟩ : Fin 128)) := by
  have he := e.isLt
  have hs : ∀ k : ℕ, ∀ hk : k < 8, e.val / 128 = k →
      x (ix3 (⟨k, hk⟩ : Fin 8) r (⟨e.val % 128, by omega⟩ : Fin 128)) = x (ix3 (⟨e.val / 128, by omega⟩ : Fin 8) r (⟨e.val % 128, by omega⟩ : Fin 128)) := by
    intro k hk h; subst h; rfl
  have hi : ∀ b : Fin 2, b ≠ 1 → ((ix2 r (⟨e.val % 128, by omega⟩ : Fin 128) : S512x128.Idx) b).val = ((ix2 r e : S512x1024.Idx) b).val := by
    intro b hb
    match b with
    | ⟨0, _⟩ => rfl
    | ⟨1, _⟩ => exact absurd rfl hb
  rcases (by omega : e.val / 128 = 0 ∨ e.val / 128 = 1 ∨ e.val / 128 = 2 ∨ e.val / 128 = 3 ∨ e.val / 128 = 4 ∨ e.val / 128 = 5 ∨ e.val / 128 = 6 ∨ e.val / 128 = 7) with h | h | h | h | h | h | h | h
  · exact ((concatenate_apply_piece 1 _ _ (ix2 r e) 0 (by show 0 < 8; omega) S512x128 _ rfl rfl 0 rfl (ix2 r (⟨e.val % 128, by omega⟩ : Fin 128)) hi (by show 0 + e.val % 128 = e.val; omega)).trans (head_apply x 0 (by decide) _ _ r _)).trans (hs 0 (by decide) h)
  · exact ((concatenate_apply_piece 1 _ _ (ix2 r e) 1 (by show 1 < 8; omega) S512x128 _ rfl rfl 128 rfl (ix2 r (⟨e.val % 128, by omega⟩ : Fin 128)) hi (by show 128 + e.val % 128 = e.val; omega)).trans (head_apply x 1 (by decide) _ _ r _)).trans (hs 1 (by decide) h)
  · exact ((concatenate_apply_piece 1 _ _ (ix2 r e) 2 (by show 2 < 8; omega) S512x128 _ rfl rfl 256 rfl (ix2 r (⟨e.val % 128, by omega⟩ : Fin 128)) hi (by show 256 + e.val % 128 = e.val; omega)).trans (head_apply x 2 (by decide) _ _ r _)).trans (hs 2 (by decide) h)
  · exact ((concatenate_apply_piece 1 _ _ (ix2 r e) 3 (by show 3 < 8; omega) S512x128 _ rfl rfl 384 rfl (ix2 r (⟨e.val % 128, by omega⟩ : Fin 128)) hi (by show 384 + e.val % 128 = e.val; omega)).trans (head_apply x 3 (by decide) _ _ r _)).trans (hs 3 (by decide) h)
  · exact ((concatenate_apply_piece 1 _ _ (ix2 r e) 4 (by show 4 < 8; omega) S512x128 _ rfl rfl 512 rfl (ix2 r (⟨e.val % 128, by omega⟩ : Fin 128)) hi (by show 512 + e.val % 128 = e.val; omega)).trans (head_apply x 4 (by decide) _ _ r _)).trans (hs 4 (by decide) h)
  · exact ((concatenate_apply_piece 1 _ _ (ix2 r e) 5 (by show 5 < 8; omega) S512x128 _ rfl rfl 640 rfl (ix2 r (⟨e.val % 128, by omega⟩ : Fin 128)) hi (by show 640 + e.val % 128 = e.val; omega)).trans (head_apply x 5 (by decide) _ _ r _)).trans (hs 5 (by decide) h)
  · exact ((concatenate_apply_piece 1 _ _ (ix2 r e) 6 (by show 6 < 8; omega) S512x128 _ rfl rfl 768 rfl (ix2 r (⟨e.val % 128, by omega⟩ : Fin 128)) hi (by show 768 + e.val % 128 = e.val; omega)).trans (head_apply x 6 (by decide) _ _ r _)).trans (hs 6 (by decide) h)
  · exact ((concatenate_apply_piece 1 _ _ (ix2 r e) 7 (by show 7 < 8; omega) S512x128 _ rfl rfl 896 rfl (ix2 r (⟨e.val % 128, by omega⟩ : Fin 128)) hi (by show 896 + e.val % 128 = e.val; omega)).trans (head_apply x 7 (by decide) _ _ r _)).trans (hs 7 (by decide) h)

/-- A matrix product with zero added, at an index. -/
theorem matmul_apply (a : Vec Ideal S512x1024 .bf16) (w : Vec Ideal S1024x4096 .bf16) (r : Fin 512) (d : Fin 4096) :
    matmul (F := Ideal) (φ₁ := .bf16) (φ₂ := .bf16) dot_S512x1024_S1024x4096_S512x4096_1_0_0_1_n_n none (a : FVec Ideal S512x1024 .bf16) (w : FVec Ideal S1024x4096 .bf16) (constant S512x4096 .f32 0x00000000#32) (ix2 r d)
      = ∑ e : Fin 1024, a (ix2 r e) * w (ix2 e d) := by
  refine (Ideal.matmul_constant_zero_apply (φ₁ := .bf16) (φ₂ := .bf16) dot_S512x1024_S1024x4096_S512x4096_1_0_0_1_n_n none _ _ _).trans ?_
  rw [← Equiv.sum_comp (ValueIdx.contrEquiv1 dot_S512x1024_S1024x4096_S512x4096_1_0_0_1_n_n 1024 rfl rfl).symm]
  refine Finset.sum_congr rfl fun k _ => ?_
  have hk := ValueIdx.contrEquiv1_symm_val dot_S512x1024_S1024x4096_S512x4096_1_0_0_1_n_n 1024 rfl rfl k
  have el : dot_S512x1024_S1024x4096_S512x4096_1_0_0_1_n_n.lhsIdx (ix2 r d) ((ValueIdx.contrEquiv1 dot_S512x1024_S1024x4096_S512x4096_1_0_0_1_n_n 1024 rfl rfl).symm k) = ix2 r k := funext fun a => Fin.ext (by
    match a with
    | ⟨0, _⟩ => rfl
    | ⟨1, _⟩ => exact (dot_S512x1024_S1024x4096_S512x4096_1_0_0_1_n_n.lhsIdx_val_of_single rfl _ _).trans hk)
  have er : dot_S512x1024_S1024x4096_S512x4096_1_0_0_1_n_n.rhsIdx (ix2 r d) ((ValueIdx.contrEquiv1 dot_S512x1024_S1024x4096_S512x4096_1_0_0_1_n_n 1024 rfl rfl).symm k) = ix2 k d := funext fun a => Fin.ext (by
    match a with
    | ⟨0, _⟩ => exact (dot_S512x1024_S1024x4096_S512x4096_1_0_0_1_n_n.rhsIdx_val_of_single rfl _ _).trans hk
    | ⟨1, _⟩ => rfl)
  rw [el, er]

/-- The product of a block of eight heads and a block of weights. -/
def headSum (x : Vec Ideal S8x512x128 .bf16) (w : Vec Ideal S1024x4096 .bf16) (r : Fin 512) (d : Fin 4096) : EReal :=
  ∑ e : Fin 1024, x (ix3 (⟨e.val / 128, by have := e.isLt; omega⟩ : Fin 8) r (⟨e.val % 128, by omega⟩ : Fin 128)) * w (ix2 e d)

/-- Head `k` of a block, as it is loaded. -/
abbrev hd (x : Vec Ideal S8x512x128 .bf16) (k : ℕ) (inb : ∀ a, (![k, 0, 0] : Fin 3 → ℕ) a + S1x512x128.size a ≤ S8x512x128.size a) : Vec Ideal S1x512x128 .bf16 :=
  View.ld (Val := Elt Ideal) (e' := .bf16) x (Rect.unit (s := S8x512x128) ![k, 0, 0] S1x512x128.size inb)

/-- The first product of a row block, at an index. -/
theorem pay7_apply (x : Vec Ideal S8x512x128 .bf16) (w : Vec Ideal S1024x4096 .bf16) (r : Fin 512) (d : Fin 4096) :
    k0_pay7 (F := Ideal) (hd x 0 inb_S8x512x128_S1x512x128_0_0_0) (hd x 1 inb_S8x512x128_S1x512x128_1_0_0) (hd x 2 inb_S8x512x128_S1x512x128_2_0_0)
      (hd x 3 inb_S8x512x128_S1x512x128_3_0_0) (hd x 4 inb_S8x512x128_S1x512x128_4_0_0) (hd x 5 inb_S8x512x128_S1x512x128_5_0_0)
      (hd x 6 inb_S8x512x128_S1x512x128_6_0_0) (hd x 7 inb_S8x512x128_S1x512x128_7_0_0) w (ix2 r d) = headSum x w r d := by
  unfold k0_pay7
  rw [shapeCast_self]
  refine (matmul_apply _ w r d).trans (Finset.sum_congr rfl fun e _ => ?_)
  exact congrArg (fun b : EReal => b * w (ix2 e d)) (heads_apply x r e)

/-- A later product of a row block added to what is there, at an index. -/
theorem pay2_apply (v : Vec Ideal S512x4096 .f32) (x : Vec Ideal S8x512x128 .bf16) (w : Vec Ideal S1024x4096 .bf16) (r : Fin 512) (d : Fin 4096) :
    k0_pay2 (F := Ideal) v (hd x 0 inb_S8x512x128_S1x512x128_0_0_0) (hd x 1 inb_S8x512x128_S1x512x128_1_0_0) (hd x 2 inb_S8x512x128_S1x512x128_2_0_0)
      (hd x 3 inb_S8x512x128_S1x512x128_3_0_0) (hd x 4 inb_S8x512x128_S1x512x128_4_0_0) (hd x 5 inb_S8x512x128_S1x512x128_5_0_0)
      (hd x 6 inb_S8x512x128_S1x512x128_6_0_0) (hd x 7 inb_S8x512x128_S1x512x128_7_0_0) w (ix2 r d) = v (ix2 r d) + headSum x w r d := by
  unfold k0_pay2
  rw [shapeCast_self]
  refine congrArg (fun b : EReal => v (ix2 r d) + b) ((matmul_apply _ w r d).trans (Finset.sum_congr rfl fun e _ => ?_))
  exact congrArg (fun b : EReal => b * w (ix2 e d)) (heads_apply x r e)

/-- The same for the last product. -/
theorem pay9_apply (v : Vec Ideal S512x4096 .f32) (x : Vec Ideal S8x512x128 .bf16) (w : Vec Ideal S1024x4096 .bf16) (r : Fin 512) (d : Fin 4096) :
    k0_pay9 (F := Ideal) v (hd x 0 inb_S8x512x128_S1x512x128_0_0_0) (hd x 1 inb_S8x512x128_S1x512x128_1_0_0) (hd x 2 inb_S8x512x128_S1x512x128_2_0_0)
      (hd x 3 inb_S8x512x128_S1x512x128_3_0_0) (hd x 4 inb_S8x512x128_S1x512x128_4_0_0) (hd x 5 inb_S8x512x128_S1x512x128_5_0_0)
      (hd x 6 inb_S8x512x128_S1x512x128_6_0_0) (hd x 7 inb_S8x512x128_S1x512x128_7_0_0) w (ix2 r d) = v (ix2 r d) + headSum x w r d :=
  pay2_apply v x w r d

/-- The residual strip added. -/
theorem pay3_apply (a b : Vec Ideal S512x1024 .f32) (z : S512x1024.Idx) : k0_pay3 (F := Ideal) a b z = a z + b z := by
  unfold k0_pay3; rw [shapeCast_self]; rfl
theorem pay4_apply (a b : Vec Ideal S512x1024 .f32) (z : S512x1024.Idx) : k0_pay4 (F := Ideal) a b z = a z + b z := by
  unfold k0_pay4; rw [shapeCast_self]; rfl
theorem pay5_apply (a b : Vec Ideal S512x1024 .f32) (z : S512x1024.Idx) : k0_pay5 (F := Ideal) a b z = a z + b z := by
  unfold k0_pay5; rw [shapeCast_self]; rfl
theorem pay18_apply (a b : Vec Ideal S512x1024 .f32) (z : S512x1024.Idx) : k0_pay1 (F := Ideal) (k0_pay8 a b) z = a z + b z := by
  unfold k0_pay1; rw [shapeCast_self]; rfl

/-- The factor a row is scaled by: one over the root of its mean square plus a small constant. -/
def rowScale (f : Fin 4096 → EReal) : EReal :=
  FloatOps.rsqrt (F := Ideal) (φ := .f32) (FloatOps.divf (F := Ideal) (φ := .f32) (∑ k, f k * f k) (FloatOps.ofBits (F := Ideal) .f32 0x45800000#32)
    + FloatOps.ofBits (F := Ideal) .f32 0x358637BD#32)

/-- The normalised rows, at an index. -/
theorem pay6_apply (x : Vec Ideal S512x4096 .f32) (nw : Vec Ideal S1x4096 .f32) (r : Fin 512) (d : Fin 4096) :
    k0_pay6 (F := Ideal) x nw (ix2 r d) = x (ix2 r d) * rowScale (fun k => x (ix2 r k)) * nw (ix2 (0 : Fin 1) d) := by
  unfold k0_pay6
  refine congrArg₂ (fun a b : EReal => a * b) (congrArg (fun b : EReal => x (ix2 r d) * b) ?_) ?_
  · rw [broadcastTo_apply _ _ (ix2 r d) (ix2 r (0 : Fin 1)) (fun a => match a with | ⟨0, _⟩ => rfl | ⟨1, _⟩ => rfl)]
    unfold rowScale
    refine congrArg (fun s : EReal => FloatOps.rsqrt (F := Ideal) (φ := .f32) (FloatOps.divf (F := Ideal) (φ := .f32) s (FloatOps.ofBits (F := Ideal) .f32 0x45800000#32)
      + FloatOps.ofBits (F := Ideal) .f32 0x358637BD#32)) ?_
    refine (shapeCast_apply _ _ (ix2 r (0 : Fin 1)) (ix1 r) (by rewrite [Shape.rowMajor_val_one, Shape.rowMajor_val_two]; show r.val = r.val * 1 + 0; omega)).trans ?_
    refine (Ideal.multiReduction_add_single _ _ _ _ _ _).trans (Finset.sum_congr rfl fun k _ => ?_)
    have e : (reduces_S512x4096_S512).lift (ix1 r) k = ix2 r k := funext fun a => Fin.ext (by match a with | ⟨0, _⟩ => rfl | ⟨1, _⟩ => rfl)
    rw [e]; rfl
  · exact broadcastTo_apply _ _ (ix2 r d) (ix2 (0 : Fin 1) d) (fun a => match a with | ⟨0, _⟩ => rfl | ⟨1, _⟩ => rfl)

end Cert.Kernel3Ideal.Own

end
-- ==== Proof.Out.Run.lean ====
/- The triples of the output kernel's body over the extended reals, case by case: what one grid point leaves in the
   accumulator and, at the last step, in the output block. -/
module

public import proofs.«01_k».proof.Proof.Out.Pay
public import proofs.«01_k».proof.Proof.Gen.Kernel3Ideal.Frame
public import proofs.«01_k».proof.Proof.Gen.Kernel3Ideal.Skeleton
public import Idealize.ShloMosaic.Lib.WritesUnit
public import Idealize.ShloMosaic.Lib.Pipeline.Value
public import Idealize.ShloMosaic.Lib.Pipeline.DatRel

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx (ix1 ix2 ix3)

local notation "𝕄" => MT nD τ sig Unit (Elt Ideal) ℕ (UR sig nD τ) ℕ

theorem hz2 : (![0, 0] : Fin 2 → Nat) = fun _ => 0 := funext fun a => by fin_cases a <;> rfl

/-- `S'` is `S` with the 512 rows from row `o` on replaced by `base`, and `xs` added at the 1024 columns from column `p` on. -/
def Upd (S S' : Vec Ideal S1024x4096 .f32) (o p : ℕ) (base : S1024x4096.Idx → Fin 512 → Fin 4096 → EReal) (xs : Vec Ideal S512x1024 .f32) : Prop :=
  (∀ (y : S1024x4096.Idx) (r : Fin 512) (d : Fin 4096), (y 0).val = o + r.val → (y 1).val = d.val →
    (∀ z : Fin 1024, d.val = p + z.val → S' y = base y r d + xs (ix2 r z)) ∧ (d.val < p ∨ p + 1024 ≤ d.val → S' y = base y r d))
  ∧ ∀ y : S1024x4096.Idx, (y 0).val < o ∨ o + 512 ≤ (y 0).val → S' y = S y

/-- What the two stores of a grid point leave in the accumulator's rows, whatever was there before. -/
theorem rows_writes (arg : Memref sig .tc .vmem S1024x4096 .f32) (f : arg.view.ty.Contents (Elt Ideal)) {o p : ℕ}
    (inb : ∀ a, (![o, 0] : Fin 2 → ℕ) a + S512x4096.size a ≤ S1024x4096.size a) (inb' : ∀ a, (![o, p] : Fin 2 → ℕ) a + S512x1024.size a ≤ S1024x4096.size a)
    (v : Vec Ideal S512x4096 .f32) (w : Vec Ideal S512x1024 .f32)
    (y : S1024x4096.Idx) (r : Fin 512) (d : Fin 4096) (h0 : (y 0).val = o + r.val) (h1 : (y 1).val = d.val) :
    arg.view.read (Elt Ideal) (arg.view.writes (Elt Ideal) f
      [(⟨Rect.unit (s := S1024x4096) ![o, p] S512x1024.size inb', w⟩ : View.Piece (Elt Ideal) S1024x4096 .f32),
       ⟨Rect.unit (s := S1024x4096) ![o, 0] S512x4096.size inb, v⟩]) y
      = if h : p ≤ d.val ∧ d.val < p + 1024 then w (ix2 r (⟨d.val - p, by omega⟩ : Fin 1024)) else v (ix2 r d) := by
  by_cases h : p ≤ d.val ∧ d.val < p + 1024
  · rw [dif_pos h]
    exact View.read_writes_cons_unit_of_mem arg.view _ inb' w _ y (ix2 r (⟨d.val - p, by omega⟩ : Fin 1024)) rfl (fun a => match a with
      | ⟨0, _⟩ => h0
      | ⟨1, _⟩ => by show (y 1).val = p + (d.val - p); omega)
  · rw [dif_neg h]
    refine (View.read_writes_cons_unit_of_not_mem arg.view _ inb' w _ y rfl 1 (by
      show (y 1).val < p ∨ p + 1024 ≤ (y 1).val; omega)).trans ?_
    exact View.read_writes_cons_unit_of_mem arg.view _ inb v [] y (ix2 r d) rfl (fun a => match a with
      | ⟨0, _⟩ => h0
      | ⟨1, _⟩ => by show (y 1).val = 0 + d.val; omega)

/-- The two stores of a grid point into the accumulator: the rows, then the strip of the residual stream added. -/
theorem upd_writes {arg : Memref sig .tc .vmem S1024x4096 .f32} (harg : arg.IsWhole) (S : Vec Ideal S1024x4096 .f32)
    {off off' : Fin 2 → ℕ} {o p : ℕ} (hoff : off = ![o, 0]) (hoff' : off' = ![o, p]) (hp : p + 1024 ≤ 4096)
    (inb : ∀ a, off a + S512x4096.size a ≤ S1024x4096.size a) (inb' : ∀ a, off' a + S512x1024.size a ≤ S1024x4096.size a)
    (v : Vec Ideal S512x4096 .f32) (w : Vec Ideal S512x1024 .f32) (base : S1024x4096.Idx → Fin 512 → Fin 4096 → EReal) (xs : Vec Ideal S512x1024 .f32)
    (hv : ∀ (y : S1024x4096.Idx) (r : Fin 512) (d : Fin 4096), (y 0).val = o + r.val → (y 1).val = d.val → v (ix2 r d) = base y r d)
    (hw : ∀ z : S512x1024.Idx, w z = arg.view.readCov
      [(⟨Rect.unit (s := S1024x4096) off S512x4096.size inb, v⟩ : View.Piece (Elt Ideal) S1024x4096 .f32)]
        (Rect.unit (s := S1024x4096) off' S512x1024.size inb').toLoadRect z + xs z) :
    Upd S (arg.view.read (Elt Ideal) (arg.view.writes (Elt Ideal) (harg.unread S)
      [(⟨Rect.unit (s := S1024x4096) off' S512x1024.size inb', w⟩ : View.Piece (Elt Ideal) S1024x4096 .f32),
       ⟨Rect.unit (s := S1024x4096) off S512x4096.size inb, v⟩])) o p base xs := by
  subst hoff hoff'
  refine ⟨fun y r d h0 h1 => ⟨fun z hz => ?_, fun hd => ?_⟩, fun y h => ?_⟩
  · have hz' := z.isLt
    refine (rows_writes arg _ inb inb' v w y r d h0 h1).trans ?_
    rw [dif_pos (by omega : p ≤ d.val ∧ d.val < p + 1024)]
    have ez : (⟨d.val - p, by omega⟩ : Fin 1024) = z := Fin.ext (by show d.val - p = z.val; omega)
    rw [ez]
    refine (hw (ix2 r z)).trans (congrArg (fun b : EReal => b + xs (ix2 r z)) ?_)
    have e : (Rect.unit (s := S1024x4096) ![o, p] S512x1024.size inb').idx (ix2 r z) = y := funext fun a => Fin.ext (by
      match a with
      | ⟨0, _⟩ => show o + 1 * r.val = (y 0).val; omega
      | ⟨1, _⟩ => show p + 1 * z.val = (y 1).val; omega)
    refine (View.readAt_apply (v := arg.view) _ _ _).trans ((congrArg _ e).trans ?_)
    exact (View.read_writes_cons_unit_of_mem arg.view _ inb v [] y (ix2 r d) rfl (fun a => match a with
      | ⟨0, _⟩ => h0
      | ⟨1, _⟩ => by show (y 1).val = 0 + d.val; omega)).trans (hv y r d h0 h1)
  · refine (rows_writes arg _ inb inb' v w y r d h0 h1).trans ?_
    rw [dif_neg (by omega : ¬(p ≤ d.val ∧ d.val < p + 1024))]
    exact hv y r d h0 h1
  · refine (View.read_writes_cons_unit_of_not_mem arg.view _ inb' w _ y rfl 0 (by
      show (y 0).val < o ∨ o + 512 ≤ (y 0).val; exact h)).trans ?_
    refine (View.read_writes_cons_unit_of_not_mem arg.view _ inb v _ y rfl 0 (by
      show (y 0).val < o ∨ o + 512 ≤ (y 0).val; exact h)).trans ?_
    show arg.view.read (Elt Ideal) (harg.unread S) y = S y
    rw [harg.read_unread]

/-- The rows loaded from the accumulator, at an index. -/
theorem rows_apply (S : Vec Ideal S1024x4096 .f32) {off : Fin 2 → ℕ} {o : ℕ} (hoff : off = ![o, 0]) (inb : ∀ a, off a + S512x4096.size a ≤ S1024x4096.size a)
    (y : S1024x4096.Idx) (r : Fin 512) (d : Fin 4096) (h0 : (y 0).val = o + r.val) (h1 : (y 1).val = d.val) :
    View.ld (Val := Elt Ideal) (e' := .f32) S (Rect.unit (s := S1024x4096) off S512x4096.size inb) (ix2 r d) = S y := by
  subst hoff
  refine congrArg S (funext fun a => Fin.ext ?_)
  match a with
  | ⟨0, _⟩ => show o + 1 * r.val = (y 0).val; omega
  | ⟨1, _⟩ => show 0 + 1 * d.val = (y 1).val; omega

/-- The output block holds the normalised rows of the accumulator `S` from row `o` on. -/
def OutIs (S : Vec Ideal S1024x4096 .f32) (X : Vec Ideal S512x4096 .f32) (o : ℕ) (nw : Vec Ideal S1x4096 .f32) : Prop :=
  ∀ (r : Fin 512) (d : Fin 4096) (f : Fin 4096 → S1024x4096.Idx), (∀ k, (f k 0).val = o + r.val ∧ (f k 1).val = k.val) →
    X (ix2 r d) = S (f d) * rowScale (fun k => S (f k)) * nw (ix2 (0 : Fin 1) d)

/-- The normalised rows of what the two stores leave in the accumulator. -/
theorem out_writes {arg : Memref sig .tc .vmem S1024x4096 .f32} (harg : arg.IsWhole) {arg' : Memref sig .tc .vmem S512x4096 .f32} (f' : arg'.view.ty.Contents (Elt Ideal)) (S : Vec Ideal S1024x4096 .f32)
    {off off' : Fin 2 → ℕ} {o p : ℕ} (hoff : off = ![o, 0]) (hoff' : off' = ![o, p])
    (inb : ∀ a, off a + S512x4096.size a ≤ S1024x4096.size a) (inb' : ∀ a, off' a + S512x1024.size a ≤ S1024x4096.size a)
    (inz : ∀ a, (![0, 0] : Fin 2 → ℕ) a + S512x4096.size a ≤ S512x4096.size a)
    (v : Vec Ideal S512x4096 .f32) (w : Vec Ideal S512x1024 .f32) (nw : Vec Ideal S1x4096 .f32) :
    OutIs (arg.view.read (Elt Ideal) (arg.view.writes (Elt Ideal) (harg.unread S)
      [(⟨Rect.unit (s := S1024x4096) off' S512x1024.size inb', w⟩ : View.Piece (Elt Ideal) S1024x4096 .f32),
       ⟨Rect.unit (s := S1024x4096) off S512x4096.size inb, v⟩]))
      (arg'.view.read (Elt Ideal) (arg'.view.writes (Elt Ideal) f'
        [(⟨Rect.unit (s := S512x4096) ![0, 0] S512x4096.size inz, k0_pay6 (arg.view.readCov
          [(⟨Rect.unit (s := S1024x4096) off' S512x1024.size inb', w⟩ : View.Piece (Elt Ideal) S1024x4096 .f32),
           ⟨Rect.unit (s := S1024x4096) off S512x4096.size inb, v⟩] (Rect.unit (s := S1024x4096) off S512x4096.size inb).toLoadRect) nw⟩ : View.Piece (Elt Ideal) S512x4096 .f32)])) o nw := by
  subst hoff hoff'
  intro r d f hf
  have row : ∀ k : Fin 4096, arg.view.readCov
      [(⟨Rect.unit (s := S1024x4096) ![o, p] S512x1024.size inb', w⟩ : View.Piece (Elt Ideal) S1024x4096 .f32),
       ⟨Rect.unit (s := S1024x4096) ![o, 0] S512x4096.size inb, v⟩] (Rect.unit (s := S1024x4096) ![o, 0] S512x4096.size inb).toLoadRect (ix2 r k)
      = arg.view.read (Elt Ideal) (arg.view.writes (Elt Ideal) (harg.unread S)
      [(⟨Rect.unit (s := S1024x4096) ![o, p] S512x1024.size inb', w⟩ : View.Piece (Elt Ideal) S1024x4096 .f32),
       ⟨Rect.unit (s := S1024x4096) ![o, 0] S512x4096.size inb, v⟩]) (f k) := by
    intro k
    have e : (Rect.unit (s := S1024x4096) ![o, 0] S512x4096.size inb).idx (ix2 r k) = f k := funext fun a => Fin.ext (by
      match a with
      | ⟨0, _⟩ => show o + 1 * r.val = (f k 0).val; have := (hf k).1; omega
      | ⟨1, _⟩ => show 0 + 1 * k.val = (f k 1).val; have := (hf k).2; omega)
    refine (View.readAt_apply (v := arg.view) _ _ _).trans ((congrArg _ e).trans ?_)
    exact (rows_writes arg _ inb inb' v w (f k) r k (hf k).1 (hf k).2).trans (rows_writes arg _ inb inb' v w (f k) r k (hf k).1 (hf k).2).symm
  refine (View.read_writes_cons_unit_of_mem arg'.view _ inz _ [] (ix2 r d) (ix2 r d) rfl (fun a => match a with
      | ⟨0, _⟩ => by show r.val = 0 + r.val; omega
      | ⟨1, _⟩ => by show d.val = 0 + d.val; omega)).trans ((pay6_apply _ nw r d).trans ?_)
  rw [row d]
  exact congrArg (fun g : Fin 4096 → EReal => _ * rowScale g * nw (ix2 (0 : Fin 1) d)) (funext row)

end Cert.Kernel3Ideal.Own

end
-- ==== Proof.Out.RunA.lean ====
/- The triple of the output kernel's body at the first step of a row block, over the extended reals. -/
module

public import proofs.«01_k».proof.Proof.Out.Run
public import proofs.«01_k».proof.Proof.Gen.Kernel3Ideal.Frame
public import proofs.«01_k».proof.Proof.Gen.Kernel3Ideal.Skeleton
public import Idealize.ShloMosaic.Lib.WritesUnit
public import Idealize.ShloMosaic.Lib.Pipeline.Value
public import Idealize.ShloMosaic.Lib.Pipeline.DatRel

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx (ix1 ix2 ix3)

local notation "𝕄" => MT nD τ sig Unit (Elt Ideal) ℕ (UR sig nD τ) ℕ

set_option maxHeartbeats 2000000 in
/-- The first step of a row block: the accumulator's rows become the product, with the residual strip added. -/
theorem run_A (c : Dev nD) (i : grid0.Coords) (arg3 : Memref sig .tc .vmem S8x512x128 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1024x4096 .f32) (harg8 : arg8.IsWhole)
    (hc1 : k0_cond1 i = 1#1) (hc2 : ¬k0_cond2 i = 1#1) (hc3 : ¬k0_cond3 i = 1#1) (hc4 : ¬k0_cond4 i = 1#1) (hc5 : ¬k0_cond5 i = 1#1)
    (x0 : Vec Ideal S8x512x128 .bf16) (x1 : Vec Ideal S1024x4096 .bf16) (x2 : Vec Ideal S512x1024 .f32) (x3 : Vec Ideal S1x4096 .f32) (X : Vec Ideal S512x4096 .f32) (S : Vec Ideal S1024x4096 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare X ∗ owns (c : Thread nD τ) arg8 fullShare S
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare X ∗ (∃ S', ⌜Upd S S' (512 * (i 2).val) 0 (fun y r d => headSum x0 x1 r d) x2⌝ ∗ owns (c : Thread nD τ) arg8 fullShare S')) -∗ K ⟨⟩))
      ⊢ wp frame (wpE (defs₀ (F := Ideal)) Variants.none c none) E (cc0_out_proj i arg3 harg3 arg4 harg4 arg5 harg5 arg6 harg6 arg7 harg7 arg8 harg8) K := by
  simp only [cc0_out_proj_eq_skeleton]; unfold cc0_out_proj_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%fs, %hs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hs
  sl_exec (disch := first | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr; swap
  · iexists _; isplitr; swap; · iexact HS
    ipureintro; rfl
  ipureintro
  sl_unfold_words
  simp only [View.readAt_eq_ld, harg3.read_unread, harg4.read_unread, harg5.read_unread, harg8.read_unread, View.ld_unit_zero (S := S1024x4096) hz2, View.ld_unit_zero (S := S512x1024) hz2]
  refine upd_writes harg8 S (k0_off1_eq i) (k0_off2_eq i) (by decide) _ _ _ _ _ x2 (fun y r d h0 h1 => ?_) (fun z => ?_)
  · exact pay7_apply x0 x1 r d
  · exact pay18_apply _ _ z

end Cert.Kernel3Ideal.Own

end
-- ==== Proof.Out.RunB.lean ====
/- The triple of the output kernel's body at the second step of a row block, over the extended reals. -/
module

public import proofs.«01_k».proof.Proof.Out.Run
public import proofs.«01_k».proof.Proof.Gen.Kernel3Ideal.Frame
public import proofs.«01_k».proof.Proof.Gen.Kernel3Ideal.Skeleton
public import Idealize.ShloMosaic.Lib.WritesUnit
public import Idealize.ShloMosaic.Lib.Pipeline.Value
public import Idealize.ShloMosaic.Lib.Pipeline.DatRel

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx (ix1 ix2 ix3)

local notation "𝕄" => MT nD τ sig Unit (Elt Ideal) ℕ (UR sig nD τ) ℕ

set_option maxHeartbeats 2000000 in
/-- The second step: the product is added to the accumulator's rows, and the residual strip to its columns. -/
theorem run_B (c : Dev nD) (i : grid0.Coords) (arg3 : Memref sig .tc .vmem S8x512x128 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1024x4096 .f32) (harg8 : arg8.IsWhole)
    (hc1 : ¬k0_cond1 i = 1#1) (hc2 : k0_cond2 i = 1#1) (hc3 : k0_cond3 i = 1#1) (hc4 : ¬k0_cond4 i = 1#1) (hc5 : ¬k0_cond5 i = 1#1)
    (x0 : Vec Ideal S8x512x128 .bf16) (x1 : Vec Ideal S1024x4096 .bf16) (x2 : Vec Ideal S512x1024 .f32) (x3 : Vec Ideal S1x4096 .f32) (X : Vec Ideal S512x4096 .f32) (S : Vec Ideal S1024x4096 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare X ∗ owns (c : Thread nD τ) arg8 fullShare S
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare X ∗ (∃ S', ⌜Upd S S' (512 * (i 2).val) 1024 (fun y r d => S y + headSum x0 x1 r d) x2⌝ ∗ owns (c : Thread nD τ) arg8 fullShare S')) -∗ K ⟨⟩))
      ⊢ wp frame (wpE (defs₀ (F := Ideal)) Variants.none c none) E (cc0_out_proj i arg3 harg3 arg4 harg4 arg5 harg5 arg6 harg6 arg7 harg7 arg8 harg8) K := by
  simp only [cc0_out_proj_eq_skeleton]; unfold cc0_out_proj_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%fs, %hs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hs
  sl_exec (disch := first | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr; swap
  · iexists _; isplitr; swap; · iexact HS
    ipureintro; rfl
  ipureintro
  sl_unfold_words
  simp only [View.readAt_eq_ld, harg3.read_unread, harg4.read_unread, harg5.read_unread, harg8.read_unread, View.ld_unit_zero (S := S1024x4096) hz2, View.ld_unit_zero (S := S512x1024) hz2]
  refine upd_writes harg8 S (k0_off3_eq i) (k0_off4_eq i) (by decide) _ _ _ _ _ x2 (fun y r d h0 h1 => ?_) (fun z => ?_)
  · exact (pay2_apply _ x0 x1 r d).trans (congrArg (fun b : EReal => b + headSum x0 x1 r d) (rows_apply S (k0_off3_eq i) _ y r d h0 h1))
  · exact pay3_apply _ _ z

end Cert.Kernel3Ideal.Own

end
-- ==== Proof.Out.RunC.lean ====
/- The triple of the output kernel's body at the third step of a row block, over the extended reals. -/
module

public import proofs.«01_k».proof.Proof.Out.Run
public import proofs.«01_k».proof.Proof.Gen.Kernel3Ideal.Frame
public import proofs.«01_k».proof.Proof.Gen.Kernel3Ideal.Skeleton
public import Idealize.ShloMosaic.Lib.WritesUnit
public import Idealize.ShloMosaic.Lib.Pipeline.Value
public import Idealize.ShloMosaic.Lib.Pipeline.DatRel

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx (ix1 ix2 ix3)

local notation "𝕄" => MT nD τ sig Unit (Elt Ideal) ℕ (UR sig nD τ) ℕ

set_option maxHeartbeats 2000000 in
/-- The third step, the same. -/
theorem run_C (c : Dev nD) (i : grid0.Coords) (arg3 : Memref sig .tc .vmem S8x512x128 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1024x4096 .f32) (harg8 : arg8.IsWhole)
    (hc1 : ¬k0_cond1 i = 1#1) (hc2 : k0_cond2 i = 1#1) (hc3 : ¬k0_cond3 i = 1#1) (hc4 : k0_cond4 i = 1#1) (hc5 : ¬k0_cond5 i = 1#1)
    (x0 : Vec Ideal S8x512x128 .bf16) (x1 : Vec Ideal S1024x4096 .bf16) (x2 : Vec Ideal S512x1024 .f32) (x3 : Vec Ideal S1x4096 .f32) (X : Vec Ideal S512x4096 .f32) (S : Vec Ideal S1024x4096 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare X ∗ owns (c : Thread nD τ) arg8 fullShare S
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare X ∗ (∃ S', ⌜Upd S S' (512 * (i 2).val) 2048 (fun y r d => S y + headSum x0 x1 r d) x2⌝ ∗ owns (c : Thread nD τ) arg8 fullShare S')) -∗ K ⟨⟩))
      ⊢ wp frame (wpE (defs₀ (F := Ideal)) Variants.none c none) E (cc0_out_proj i arg3 harg3 arg4 harg4 arg5 harg5 arg6 harg6 arg7 harg7 arg8 harg8) K := by
  simp only [cc0_out_proj_eq_skeleton]; unfold cc0_out_proj_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%fs, %hs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hs
  sl_exec (disch := first | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr; swap
  · iexists _; isplitr; swap; · iexact HS
    ipureintro; rfl
  ipureintro
  sl_unfold_words
  simp only [View.readAt_eq_ld, harg3.read_unread, harg4.read_unread, harg5.read_unread, harg8.read_unread, View.ld_unit_zero (S := S1024x4096) hz2, View.ld_unit_zero (S := S512x1024) hz2]
  refine upd_writes harg8 S (k0_off3_eq i) (k0_off5_eq i) (by decide) _ _ _ _ _ x2 (fun y r d h0 h1 => ?_) (fun z => ?_)
  · exact (pay2_apply _ x0 x1 r d).trans (congrArg (fun b : EReal => b + headSum x0 x1 r d) (rows_apply S (k0_off3_eq i) _ y r d h0 h1))
  · exact pay4_apply _ _ z

end Cert.Kernel3Ideal.Own

end
-- ==== Proof.Out.RunD.lean ====
/- The triple of the output kernel's body at the last step of a row block, over the extended reals. -/
module

public import proofs.«01_k».proof.Proof.Out.Run
public import proofs.«01_k».proof.Proof.Gen.Kernel3Ideal.Frame
public import proofs.«01_k».proof.Proof.Gen.Kernel3Ideal.Skeleton
public import Idealize.ShloMosaic.Lib.WritesUnit
public import Idealize.ShloMosaic.Lib.Pipeline.Value
public import Idealize.ShloMosaic.Lib.Pipeline.DatRel

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx (ix1 ix2 ix3)

local notation "𝕄" => MT nD τ sig Unit (Elt Ideal) ℕ (UR sig nD τ) ℕ

set_option maxHeartbeats 2000000 in
/-- The last step: the same, and the normalised rows go to the output block. -/
theorem run_D (c : Dev nD) (i : grid0.Coords) (arg3 : Memref sig .tc .vmem S8x512x128 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1024x4096 .f32) (harg8 : arg8.IsWhole)
    (hc1 : ¬k0_cond1 i = 1#1) (hc2 : ¬k0_cond2 i = 1#1) (hc3 : ¬k0_cond3 i = 1#1) (hc4 : ¬k0_cond4 i = 1#1) (hc5 : k0_cond5 i = 1#1)
    (x0 : Vec Ideal S8x512x128 .bf16) (x1 : Vec Ideal S1024x4096 .bf16) (x2 : Vec Ideal S512x1024 .f32) (x3 : Vec Ideal S1x4096 .f32) (X : Vec Ideal S512x4096 .f32) (S : Vec Ideal S1024x4096 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare X ∗ owns (c : Thread nD τ) arg8 fullShare S
        ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ S' X', ⌜Upd S S' (512 * (i 2).val) 3072 (fun y r d => S y + headSum x0 x1 r d) x2 ∧ OutIs S' X' (512 * (i 2).val) x3⌝ ∗ owns (c : Thread nD τ) arg7 fullShare X' ∗ owns (c : Thread nD τ) arg8 fullShare S')) -∗ K ⟨⟩))
      ⊢ wp frame (wpE (defs₀ (F := Ideal)) Variants.none c none) E (cc0_out_proj i arg3 harg3 arg4 harg4 arg5 harg5 arg6 harg6 arg7 harg7 arg8 harg8) K := by
  simp only [cc0_out_proj_eq_skeleton]; unfold cc0_out_proj_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%fs, %hs, HS⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hs
  sl_exec (disch := first | sl_exact hc1 | sl_exact hc2 | sl_exact hc3 | sl_exact hc4 | sl_exact hc5)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; iexists _; isplitr; swap
  · isplitl [H4]
    · iexists _; isplitr; swap; · iexact H4
      ipureintro; rfl
    iexists _; isplitr; swap; · iexact HS
    ipureintro; rfl
  ipureintro
  sl_unfold_words
  simp only [View.readAt_eq_ld, harg3.read_unread, harg4.read_unread, harg5.read_unread, harg6.read_unread, harg8.read_unread, View.ld_unit_zero (S := S1024x4096) hz2, View.ld_unit_zero (S := S512x1024) hz2, View.ld_unit_zero (S := S1x4096) hz2]
  refine ⟨upd_writes harg8 S (k0_off6_eq i) (k0_off7_eq i) (by decide) _ _ _ _ _ x2 (fun y r d h0 h1 => ?_) (fun z => ?_), out_writes harg8 _ S (k0_off6_eq i) (k0_off7_eq i) _ _ _ _ _ x3⟩
  · exact (pay9_apply _ x0 x1 r d).trans (congrArg (fun b : EReal => b + headSum x0 x1 r d) (rows_apply S (k0_off6_eq i) _ y r d h0 h1))
  · exact pay5_apply _ _ z

end Cert.Kernel3Ideal.Own

end
-- ==== Proof.Out.Frame.lean ====
/- The frame of the output kernel over the extended reals with what it leaves in its result array: the accumulator
   holds, row block by row block, the partial products so far and the residual strips added so far. -/
module

public import proofs.«01_k».proof.Proof.Out.RunA
public import proofs.«01_k».proof.Proof.Out.RunB
public import proofs.«01_k».proof.Proof.Out.RunC
public import proofs.«01_k».proof.Proof.Out.RunD
public import Idealize.ShloMosaic.Lib.Pipeline.ArrRel
public import Idealize.ShloMosaic.Lib.Claim

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)
open Idealize.ShloMosaic.ValueIdx (ix1 ix2 ix3)

local notation "𝕄" => MT nD τ sig Unit (Elt Ideal) ℕ (UR sig nD τ) ℕ

variable (m : (ℓ : Loc nD τ sig) → Buf (Elt Ideal) ℓ) (ρ : Dev nD → PrngReg)

/-! ## The conditions of the branches over the points -/

theorem hcond1 : ∀ t : Fin cfg0.N, k0_cond1 (grid0.coords t) = 1#1 ↔ t.val % 8 < 2 :=
  (by decide +kernel : ∀ t : Fin grid0.N, k0_cond1 (grid0.coords t) = 1#1 ↔ t.val % 8 < 2)
theorem hcond2 : ∀ t : Fin cfg0.N, k0_cond2 (grid0.coords t) = 1#1 ↔ (2 ≤ t.val % 8 ∧ t.val % 8 < 6) :=
  (by decide +kernel : ∀ t : Fin grid0.N, k0_cond2 (grid0.coords t) = 1#1 ↔ (2 ≤ t.val % 8 ∧ t.val % 8 < 6))
theorem hcond3 : ∀ t : Fin cfg0.N, k0_cond3 (grid0.coords t) = 1#1 ↔ (2 ≤ t.val % 8 ∧ t.val % 8 < 4) :=
  (by decide +kernel : ∀ t : Fin grid0.N, k0_cond3 (grid0.coords t) = 1#1 ↔ (2 ≤ t.val % 8 ∧ t.val % 8 < 4))
theorem hcond4 : ∀ t : Fin cfg0.N, k0_cond4 (grid0.coords t) = 1#1 ↔ (4 ≤ t.val % 8 ∧ t.val % 8 < 6) :=
  (by decide +kernel : ∀ t : Fin grid0.N, k0_cond4 (grid0.coords t) = 1#1 ↔ (4 ≤ t.val % 8 ∧ t.val % 8 < 6))
theorem hcond5 : ∀ t : Fin cfg0.N, k0_cond5 (grid0.coords t) = 1#1 ↔ 6 ≤ t.val % 8 :=
  (by decide +kernel : ∀ t : Fin grid0.N, k0_cond5 (grid0.coords t) = 1#1 ↔ 6 ≤ t.val % 8)
theorem coord2 : ∀ t : Fin cfg0.N, (grid0.coords t 2).val = t.val % 2 :=
  (by decide +kernel : ∀ t : Fin grid0.N, (grid0.coords t 2).val = t.val % 2)

/-! ## The invariant -/

/-- The grid point of a number. -/
def pt (n : ℕ) : Fin cfg0.N := ⟨n % 128, by show _ < grid0.N; rw [N_0]; omega⟩

theorem pt_eq {t : Fin cfg0.N} {n : ℕ} (h : n = t.val) : pt n = t := by
  have ht : t.val < 128 := by have := t.isLt; change t.val < grid0.N at this; rwa [N_0] at this
  exact Fin.ext (by show n % 128 = t.val; omega)

/-- The product at step `j` of the row block whose first point is `b`. -/
def G (c : Dev nD) (b j : ℕ) (r : Fin 512) (d : Fin 4096) : EReal :=
  headSum (iblk m c 0 (pt (b + 2 * j))) (iblk m c 1 (pt (b + 2 * j))) r d

/-- The residual stream at the row block whose first point is `b`. -/
def Xs (c : Dev nD) (b : ℕ) (r : Fin 512) (d : Fin 4096) : EReal :=
  (iblk m c 2 (pt (b + 2 * (d.val / 1024))) : Vec Ideal S512x1024 .f32) (ix2 r (⟨d.val % 1024, by omega⟩ : Fin 1024))

/-- The row block's accumulator after step `k`: the products so far, and the residual stream at the columns so far. -/
def Acc (c : Dev nD) (b k : ℕ) (r : Fin 512) (d : Fin 4096) : EReal :=
  (∑ j ∈ Finset.range (k + 1), G m c b j r d) + (if d.val < 1024 * (k + 1) then Xs m c b r d else 0)

/-- The accumulator `S` holds the row block at the rows from `o` on after step `k`. -/
def Holds (c : Dev nD) (S : Vec Ideal S1024x4096 .f32) (o b k : ℕ) : Prop :=
  ∀ (y : S1024x4096.Idx) (r : Fin 512) (d : Fin 4096), (y 0).val = o + r.val → (y 1).val = d.val → S y = Acc m c b k r d

/-- Before point `t`: the last two points of this row of the grid have their row blocks in the accumulator. -/
def Inv (c : Dev nD) (t : ℕ) (S : Vec Ideal S1024x4096 .f32) : Prop :=
  ∀ u : ℕ, u < t → u / 8 = t / 8 → t ≤ u + 2 → Holds m c S (512 * (u % 2)) (8 * (u / 8) + u % 2) (u % 8 / 2)

/-- What a point of the last step leaves in the output block: the normalised rows. -/
def OutOk (c : Dev nD) (t : Fin cfg0.N) (X : Vec Ideal S512x4096 .f32) : Prop :=
  ∀ (r : Fin 512) (d : Fin 4096), X (ix2 r d) = Acc m c (8 * (t.val / 8) + t.val % 2) 3 r d
    * rowScale (fun k => Acc m c (8 * (t.val / 8) + t.val % 2) 3 r k) * (iblk m c 3 t : Vec Ideal S1x4096 .f32) (ix2 (0 : Fin 1) d)

/-- The first step of a row block. -/
theorem holds_first {c : Dev nD} {t : Fin cfg0.N} (ht : t.val % 8 < 2) {S S' : Vec Ideal S1024x4096 .f32} {o : ℕ}
    (h : Upd S S' o 0 (fun y r d => headSum (iblk m c 0 t) (iblk m c 1 t) r d) (iblk m c 2 t)) : Holds m c S' o (8 * (t.val / 8) + t.val % 2) 0 := by
  intro y r d h0 h1
  have hd := d.isLt
  have e0 : pt (8 * (t.val / 8) + t.val % 2 + 2 * 0) = t := pt_eq (by omega)
  unfold Acc
  rw [Finset.sum_range_one]
  by_cases hz : d.val < 1024
  · refine ((h.1 y r d h0 h1).1 (⟨d.val, hz⟩ : Fin 1024) (by show d.val = 0 + d.val; omega)).trans ?_
    rw [if_pos (by omega)]
    have e1 : pt (8 * (t.val / 8) + t.val % 2 + 2 * (d.val / 1024)) = t := pt_eq (by omega)
    have e2 : (⟨d.val % 1024, by omega⟩ : Fin 1024) = ⟨d.val, hz⟩ := Fin.ext (by show d.val % 1024 = d.val; omega)
    unfold G Xs; rw [e0, e1, e2]
  · refine ((h.1 y r d h0 h1).2 (Or.inr (by omega))).trans ?_
    rw [if_neg (by omega), add_zero]
    unfold G; rw [e0]

/-- A later step. -/
theorem holds_next {c : Dev nD} {t : Fin cfg0.N} {k : ℕ} (hk : t.val % 8 / 2 = k + 1) {S S' : Vec Ideal S1024x4096 .f32} {o : ℕ}
    (hS : Holds m c S o (8 * (t.val / 8) + t.val % 2) k)
    (h : Upd S S' o (1024 * (k + 1)) (fun y r d => S y + headSum (iblk m c 0 t) (iblk m c 1 t) r d) (iblk m c 2 t)) :
    Holds m c S' o (8 * (t.val / 8) + t.val % 2) (k + 1) := by
  intro y r d h0 h1
  have hd := d.isLt
  have e0 : pt (8 * (t.val / 8) + t.val % 2 + 2 * (k + 1)) = t := pt_eq (by omega)
  have hg : headSum (iblk m c 0 t) (iblk m c 1 t) r d = G m c (8 * (t.val / 8) + t.val % 2) (k + 1) r d := by unfold G; rw [e0]
  have hs := hS y r d h0 h1
  unfold Acc at hs ⊢
  rw [Finset.sum_range_succ (fun j => G m c (8 * (t.val / 8) + t.val % 2) j r d) (k + 1)]
  by_cases hz : 1024 * (k + 1) ≤ d.val ∧ d.val < 1024 * (k + 1) + 1024
  · refine ((h.1 y r d h0 h1).1 (⟨d.val - 1024 * (k + 1), by omega⟩ : Fin 1024) (by show d.val = 1024 * (k + 1) + (d.val - 1024 * (k + 1)); omega)).trans ?_
    rw [if_neg (by omega), add_zero] at hs
    have e1 : pt (8 * (t.val / 8) + t.val % 2 + 2 * (d.val / 1024)) = t := pt_eq (by omega)
    have e2 : (⟨d.val % 1024, by omega⟩ : Fin 1024) = ⟨d.val - 1024 * (k + 1), by omega⟩ := Fin.ext (by show d.val % 1024 = d.val - 1024 * (k + 1); omega)
    beta_reduce
    rw [if_pos (by omega), hs, hg]
    unfold Xs; rw [e1, e2]
  · refine ((h.1 y r d h0 h1).2 (by omega)).trans ?_
    show S y + headSum (iblk m c 0 t) (iblk m c 1 t) r d = _
    rw [hs, hg]
    by_cases hl : d.val < 1024 * (k + 1)
    · rw [if_pos hl, if_pos (by omega)]; exact add_right_comm _ _ _
    · rw [if_neg hl, if_neg (by omega), add_zero, add_zero]

/-- The invariant after a point that leaves its row block at its step. -/
theorem inv_step {c : Dev nD} {t : Fin cfg0.N} {S S' : Vec Ideal S1024x4096 .f32} {p : ℕ} {base xs} (hI : Inv m c t.val S)
    (h : Upd S S' (512 * (t.val % 2)) p base xs)
    (hn : Holds m c S' (512 * (t.val % 2)) (8 * (t.val / 8) + t.val % 2) (t.val % 8 / 2)) : Inv m c (t.val + 1) S' := by
  intro u hu h8 h2
  rcases Nat.lt_or_ge u t.val with hlt | hge
  · intro y r d h0 h1
    have hr := r.isLt
    refine (h.2 y (by omega)).trans (hI u hlt (by omega) (by omega) y r d h0 h1)
  · obtain rfl : u = t.val := by omega
    exact hn

/-- The row block of a point after the first step, before it. -/
theorem inv_prev {c : Dev nD} {t : Fin cfg0.N} {S : Vec Ideal S1024x4096 .f32} (hI : Inv m c t.val S) {k : ℕ} (hk : t.val % 8 / 2 = k + 1) :
    Holds m c S (512 * (t.val % 2)) (8 * (t.val / 8) + t.val % 2) k := by
  have h := hI (t.val - 2) (by omega) (by omega) (by omega)
  rw [show (t.val - 2) % 2 = t.val % 2 by omega, show (t.val - 2) / 8 = t.val / 8 by omega, show (t.val - 2) % 8 / 2 = k by omega] at h
  exact h

theorem out_last {c : Dev nD} {t : Fin cfg0.N} {S : Vec Ideal S1024x4096 .f32} {X : Vec Ideal S512x4096 .f32}
    (hS : Holds m c S (512 * (t.val % 2)) (8 * (t.val / 8) + t.val % 2) 3) (h : OutIs S X (512 * (t.val % 2)) (iblk m c 3 t)) : OutOk m c t X := by
  intro r d
  have hr := r.isLt
  have hv : ∀ k : Fin 4096, S (ix2 (⟨512 * (t.val % 2) + r.val, by omega⟩ : Fin 1024) k) = Acc m c (8 * (t.val / 8) + t.val % 2) 3 r k := fun k => hS _ r k rfl rfl
  refine (h r d (fun k => ix2 (⟨512 * (t.val % 2) + r.val, by omega⟩ : Fin 1024) k) (fun k => ⟨rfl, rfl⟩)).trans ?_
  rw [hv d, show (fun k : Fin 4096 => S (ix2 (⟨512 * (t.val % 2) + r.val, by omega⟩ : Fin 1024) k)) = fun k => Acc m c (8 * (t.val / 8) + t.val % 2) 3 r k from funext hv]

/-! ## The proof data -/

abbrev ms0 (t : Fin cfg0.N) : Memref sig .tc .vmem S8x512x128 .bf16 := win0_0.stage (cfg0.slots t 0)
abbrev ms1 (t : Fin cfg0.N) : Memref sig .tc .vmem S1024x4096 .bf16 := win0_1.stage (cfg0.slots t 1)
abbrev ms2 (t : Fin cfg0.N) : Memref sig .tc .vmem S512x1024 .f32 := win0_2.stage (cfg0.slots t 2)
abbrev ms3 (t : Fin cfg0.N) : Memref sig .tc .vmem S1x4096 .f32 := win0_3.stage (cfg0.slots t 3)
abbrev ms4 (t : Fin cfg0.N) : Memref sig .tc .vmem S512x4096 .f32 := win0_4.stage (cfg0.slots t 4)
abbrev sc0 : Memref sig .tc .vmem S1024x4096 .f32 := Memref.whole cc0_scratch0

theorem PhiA_eq (c : Dev nD) :
    (Pipeline.ΦA spec0 c : sProp 𝕄)
      = iprop((∃ d, owns (c : Thread nD τ) sc0 fullShare d) ∗ (∃ r, prngReg c r)) := by
  unfold Pipeline.ΦA; rw [scopedRest0_eq]; simp only [sc0, owns_whole]; try rfl

/-- The accumulator at contents that meet the invariant. -/
def Phi (c : Dev nD) (t : ℕ) : sProp 𝕄 :=
  iprop((∃ S, ⌜Inv m c t S⌝ ∗ owns (c : Thread nD τ) sc0 fullShare S) ∗ (∃ r, prngReg c r))

/-- The window held to a predicate: the output. -/
def marked : Fin 5 → Bool := fun w => w.val == 4

def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := Phi m c t.val
  q _ := fullShare
  owed _ := 0

theorem A_eq (c : Dev nD) (w : Fin cfg0.W) : (dat m c).A w = V m c (Pipeline.arrRef spec0 w) := by dsimp only [dat]
theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem before0 (c : Dev nD) (t : Fin cfg0.N) (d) : (dat m c).before 0 t d = iblk m c 0 t :=
  before0_0_of m (dat m c) (A_eq m c 0) (after0 m c) t d
theorem before1 (c : Dev nD) (t : Fin cfg0.N) (d) : (dat m c).before 1 t d = iblk m c 1 t :=
  before0_1_of m (dat m c) (A_eq m c 1) (after1 m c) t d
theorem before2 (c : Dev nD) (t : Fin cfg0.N) (d) : (dat m c).before 2 t d = iblk m c 2 t :=
  before0_2_of m (dat m c) (A_eq m c 2) (after2 m c) t d
theorem before3 (c : Dev nD) (t : Fin cfg0.N) (d) : (dat m c).before 3 t d = iblk m c 3 t :=
  before0_3_of m (dat m c) (A_eq m c 3) (after3 m c) t d

/-- What the output window is held to. -/
def Rl (c : Dev nD) (w : Fin cfg0.W) (t : Fin cfg0.N) : ((cfg0.win w).block.Idx → Elt Ideal (cfg0.win w).elt) → Prop :=
  match w with
  | ⟨4, _⟩ => fun X => 6 ≤ t.val % 8 → OutOk m c t X
  | _ => fun _ => True

def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ Y, ⌜((dat m c).toRRel marked (Rl m c)).Finds 4 t Y⌝ ∗ owns (c : Thread nD τ) (ms4 t) fullShare Y))

def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ (∃ X : Vec Ideal S512x4096 .f32, ⌜6 ≤ t.val % 8 → OutOk m c t X⌝ ∗ owns (c : Thread nD τ) (ms4 t) fullShare X))

set_option maxHeartbeats 1200000 in
/-- The body at any point, by its step. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, after0, after1, after2, after3]
  rw [show (dat m c).Φ t.succ = Phi m c (t.val + 1) from rfl, show (dat m c).Φ t.castSucc = Phi m c t.val from rfl,
    show (dat m c).owesAt () t.succ = (dat m c).owesAt () t.castSucc from rfl]
  unfold Phi
  iintro ⟨⟨⟨%S, %hI, HS⟩, Hg⟩, Ho, ⟨%d0, H0⟩, ⟨%d1, H1⟩, ⟨%d2, H2⟩, ⟨%d3, H3⟩, ⟨%Y, -, H4⟩⟩
  have hc : t.val % 8 < 2 ∨ (2 ≤ t.val % 8 ∧ t.val % 8 < 4) ∨ (4 ≤ t.val % 8 ∧ t.val % 8 < 6) ∨ 6 ≤ t.val % 8 := by omega
  rcases hc with h | h | h | h
  · iapply (run_A c (grid0.coords t) _ _ _ _ _ _ _ _ _ _ _ _ ((hcond1 t).mpr (by omega)) (fun hh => absurd ((hcond2 t).mp hh) (by omega)) (fun hh => absurd ((hcond3 t).mp hh) (by omega)) (fun hh => absurd ((hcond4 t).mp hh) (by omega)) (fun hh => absurd ((hcond5 t).mp hh) (by omega)) (iblk m c 0 t) (iblk m c 1 t) (iblk m c 2 t) (iblk m c 3 t) Y S Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%S', %hp, HS⟩⟩
    rw [coord2] at hp
    isplitl [HS Hg]
    · isplitl [HS]
      · iexists S'
        isplitr
        · ipureintro
          exact inv_step m hI hp ((show t.val % 8 / 2 = 0 by omega) ▸ holds_first m h hp)
        iexact HS
      iexact Hg
    isplitl [Ho]; · iexact Ho
    isplitl [H0]; · iexact H0
    isplitl [H1]; · iexact H1
    isplitl [H2]; · iexact H2
    isplitl [H3]; · iexact H3
    iexists Y
    isplitr
    · ipureintro; intro h6; omega
    iexact H4
  · iapply (run_B c (grid0.coords t) _ _ _ _ _ _ _ _ _ _ _ _ (fun hh => absurd ((hcond1 t).mp hh) (by omega)) ((hcond2 t).mpr (by omega)) ((hcond3 t).mpr (by omega)) (fun hh => absurd ((hcond4 t).mp hh) (by omega)) (fun hh => absurd ((hcond5 t).mp hh) (by omega)) (iblk m c 0 t) (iblk m c 1 t) (iblk m c 2 t) (iblk m c 3 t) Y S Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%S', %hp, HS⟩⟩
    rw [coord2] at hp
    isplitl [HS Hg]
    · isplitl [HS]
      · iexists S'
        isplitr
        · ipureintro
          exact inv_step m hI hp ((show t.val % 8 / 2 = 0 + 1 by omega) ▸ holds_next m (k := 0) (by omega) (inv_prev m hI (by omega)) hp)
        iexact HS
      iexact Hg
    isplitl [Ho]; · iexact Ho
    isplitl [H0]; · iexact H0
    isplitl [H1]; · iexact H1
    isplitl [H2]; · iexact H2
    isplitl [H3]; · iexact H3
    iexists Y
    isplitr
    · ipureintro; intro h6; omega
    iexact H4
  · iapply (run_C c (grid0.coords t) _ _ _ _ _ _ _ _ _ _ _ _ (fun hh => absurd ((hcond1 t).mp hh) (by omega)) ((hcond2 t).mpr (by omega)) (fun hh => absurd ((hcond3 t).mp hh) (by omega)) ((hcond4 t).mpr (by omega)) (fun hh => absurd ((hcond5 t).mp hh) (by omega)) (iblk m c 0 t) (iblk m c 1 t) (iblk m c 2 t) (iblk m c 3 t) Y S Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%S', %hp, HS⟩⟩
    rw [coord2] at hp
    isplitl [HS Hg]
    · isplitl [HS]
      · iexists S'
        isplitr
        · ipureintro
          exact inv_step m hI hp ((show t.val % 8 / 2 = 1 + 1 by omega) ▸ holds_next m (k := 1) (by omega) (inv_prev m hI (by omega)) hp)
        iexact HS
      iexact Hg
    isplitl [Ho]; · iexact Ho
    isplitl [H0]; · iexact H0
    isplitl [H1]; · iexact H1
    isplitl [H2]; · iexact H2
    isplitl [H3]; · iexact H3
    iexists Y
    isplitr
    · ipureintro; intro h6; omega
    iexact H4
  · iapply (run_D c (grid0.coords t) _ _ _ _ _ _ _ _ _ _ _ _ (fun hh => absurd ((hcond1 t).mp hh) (by omega)) (fun hh => absurd ((hcond2 t).mp hh) (by omega)) (fun hh => absurd ((hcond3 t).mp hh) (by omega)) (fun hh => absurd ((hcond4 t).mp hh) (by omega)) ((hcond5 t).mpr (by omega)) (iblk m c 0 t) (iblk m c 1 t) (iblk m c 2 t) (iblk m c 3 t) Y S Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, ⟨%S', %X', %hp, H4, HS⟩⟩
    rw [coord2] at hp
    isplitl [HS Hg]
    · isplitl [HS]
      · iexists S'
        isplitr
        · ipureintro
          exact inv_step m hI hp.1 ((show t.val % 8 / 2 = 2 + 1 by omega) ▸ holds_next m (k := 2) (by omega) (inv_prev m hI (by omega)) hp.1)
        iexact HS
      iexact Hg
    isplitl [Ho]; · iexact Ho
    isplitl [H0]; · iexact H0
    isplitl [H1]; · iexact H1
    isplitl [H2]; · iexact H2
    isplitl [H3]; · iexact H3
    iexists X'
    isplitr
    · ipureintro; exact fun _ => out_last m (holds_next m (k := 2) (by omega) (inv_prev m hI (by omega)) hp.1) hp.2
    iexact H4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationRel (dat m c) (defs₀ (F := Ideal)) Variants.none () Set.univ marked (Rl m c) := fun t => by
  rw [bigSep_W0, bigSep_W0, defs₀_row]
  exact triple_restated (sound_body m c t) rfl .rfl fun _ => .rfl

/-- The relational data. -/
def rdat (c : Dev nD) : Pipeline.RDat τ (Elt Ideal) Unit ℕ (UR sig nD τ) ℕ cfg0 c := (dat m c).toRRel marked (Rl m c)

theorem phi_in (c : Dev nD) : (Pipeline.ΦA spec0 c : sProp 𝕄) ⊢ Phi m c 0 := by
  rw [PhiA_eq]; unfold Phi
  iintro ⟨⟨%S, HS⟩, Hg⟩
  isplitl [HS]
  · iexists S
    isplitr
    · ipureintro; intro u hu; exact absurd hu (Nat.not_lt_zero _)
    iexact HS
  iexact Hg

theorem phi_out (c : Dev nD) (n : ℕ) : Phi m c n ⊢ (Pipeline.ΦA spec0 c : sProp 𝕄) := by
  rw [PhiA_eq]; unfold Phi
  iintro ⟨⟨%S, -, HS⟩, Hg⟩
  isplitl [HS]
  · iexists S; iexact HS
  iexact Hg

set_option backward.isDefEq.respectTransparency.types false in
/-- The launch: every execution ends with the arrays at what the relational data allow, every counter at zero. -/
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame_track cfgs (0 : Fin 1) launch0 defs₀ Variants.none (rdat m) m ρ main
    (fun c => (body_obligation m c).toRRel) (fun c => (dat m c).share_full fun _ => rfl) (fun _ _ => rfl) (V m)
    (hmain m Variants.none) (fun c w => A_eq m c w) (phi_in m) (fun c => phi_out m c _) _ (fun _ h => h)

/-- The frame: the argument arrays end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3)⟩, h.2⟩) (run_main m ρ)

end Cert.Kernel3Ideal.Own

end
-- ==== Proof.Out.FrameBits.lean ====
/- The frame of the output kernel as printed at machine words: nothing is said of what it leaves in its result. -/
module

public import proofs.«01_k».proof.Proof.Gen.Kernel3.Frame
public import proofs.«01_k».proof.Proof.Gen.Kernel3.Skeleton
public import Idealize.ShloMosaic.Lib.Claim

@[expose] public section

set_option maxRecDepth 16384

noncomputable section

namespace Cert.Kernel3.Own

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Exactly one of the four steps runs at each point. -/
theorem hcases : ∀ t : Fin cfg0.N, (k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1)
    ∨ (¬k0_cond1 (grid0.coords t) = 1#1 ∧ k0_cond2 (grid0.coords t) = 1#1 ∧ k0_cond3 (grid0.coords t) = 1#1 ∧ ¬k0_cond4 (grid0.coords t) = 1#1 ∧ ¬k0_cond5 (grid0.coords t) = 1#1)
    ∨ (¬k0_cond1 (grid0.coords t) = 1#1 ∧ k0_cond2 (grid0.coords t) = 1#1 ∧ ¬k0_cond3 (grid0.coords t) = 1#1 ∧ k0_cond4 (grid0.coords t) = 1#1 ∧ ¬k0_cond5 (grid0.coords t) = 1#1)
    ∨ (¬k0_cond1 (grid0.coords t) = 1#1 ∧ ¬k0_cond2 (grid0.coords t) = 1#1 ∧ ¬k0_cond3 (grid0.coords t) = 1#1 ∧ ¬k0_cond4 (grid0.coords t) = 1#1 ∧ k0_cond5 (grid0.coords t) = 1#1) :=
  (by decide +kernel : ∀ t : Fin grid0.N, (k0_cond1 (grid0.coords t) = 1#1 ∧ ¬k0_cond2 (grid0.coords t) = 1#1 ∧ ¬k0_cond3 (grid0.coords t) = 1#1 ∧ ¬k0_cond4 (grid0.coords t) = 1#1 ∧ ¬k0_cond5 (grid0.coords t) = 1#1)
    ∨ (¬k0_cond1 (grid0.coords t) = 1#1 ∧ k0_cond2 (grid0.coords t) = 1#1 ∧ k0_cond3 (grid0.coords t) = 1#1 ∧ ¬k0_cond4 (grid0.coords t) = 1#1 ∧ ¬k0_cond5 (grid0.coords t) = 1#1)
    ∨ (¬k0_cond1 (grid0.coords t) = 1#1 ∧ k0_cond2 (grid0.coords t) = 1#1 ∧ ¬k0_cond3 (grid0.coords t) = 1#1 ∧ k0_cond4 (grid0.coords t) = 1#1 ∧ ¬k0_cond5 (grid0.coords t) = 1#1)
    ∨ (¬k0_cond1 (grid0.coords t) = 1#1 ∧ ¬k0_cond2 (grid0.coords t) = 1#1 ∧ ¬k0_cond3 (grid0.coords t) = 1#1 ∧ ¬k0_cond4 (grid0.coords t) = 1#1 ∧ k0_cond5 (grid0.coords t) = 1#1))

abbrev ms0 (t : Fin cfg0.N) : Memref sig .tc .vmem S8x512x128 .bf16 := win0_0.stage (cfg0.slots t 0)
abbrev ms1 (t : Fin cfg0.N) : Memref sig .tc .vmem S1024x4096 .bf16 := win0_1.stage (cfg0.slots t 1)
abbrev ms2 (t : Fin cfg0.N) : Memref sig .tc .vmem S512x1024 .f32 := win0_2.stage (cfg0.slots t 2)
abbrev ms3 (t : Fin cfg0.N) : Memref sig .tc .vmem S1x4096 .f32 := win0_3.stage (cfg0.slots t 3)
abbrev ms4 (t : Fin cfg0.N) : Memref sig .tc .vmem S512x4096 .f32 := win0_4.stage (cfg0.slots t 4)
abbrev sc0 : Memref sig .tc .vmem S1024x4096 .f32 := Memref.whole cc0_scratch0

theorem PhiA_eq (c : Dev nD) :
    (Pipeline.ΦA spec0 c : sProp 𝕄)
      = iprop((∃ d, owns (c : Thread nD τ) sc0 fullShare d) ∗ (∃ r, prngReg c r)) := by
  unfold Pipeline.ΦA; rw [scopedRest0_eq]; simp only [sc0, owns_whole]; try rfl

set_option maxHeartbeats 2000000 in
/-- The body at whichever step: the inputs stay, the output and the scratch end at some contents. -/
theorem run (c : Dev nD) (i : grid0.Coords) (arg3 : Memref sig .tc .vmem S8x512x128 .bf16) (harg3 : arg3.IsWhole) (arg4 : Memref sig .tc .vmem S1024x4096 .bf16) (harg4 : arg4.IsWhole) (arg5 : Memref sig .tc .vmem S512x1024 .f32) (harg5 : arg5.IsWhole) (arg6 : Memref sig .tc .vmem S1x4096 .f32) (harg6 : arg6.IsWhole) (arg7 : Memref sig .tc .vmem S512x4096 .f32) (harg7 : arg7.IsWhole) (arg8 : Memref sig .tc .vmem S1024x4096 .f32) (harg8 : arg8.IsWhole)
    (hc : (k0_cond1 i = 1#1 ∧ ¬k0_cond2 i = 1#1 ∧ ¬k0_cond3 i = 1#1 ∧ ¬k0_cond4 i = 1#1 ∧ ¬k0_cond5 i = 1#1)
    ∨ (¬k0_cond1 i = 1#1 ∧ k0_cond2 i = 1#1 ∧ k0_cond3 i = 1#1 ∧ ¬k0_cond4 i = 1#1 ∧ ¬k0_cond5 i = 1#1)
    ∨ (¬k0_cond1 i = 1#1 ∧ k0_cond2 i = 1#1 ∧ ¬k0_cond3 i = 1#1 ∧ k0_cond4 i = 1#1 ∧ ¬k0_cond5 i = 1#1)
    ∨ (¬k0_cond1 i = 1#1 ∧ ¬k0_cond2 i = 1#1 ∧ ¬k0_cond3 i = 1#1 ∧ ¬k0_cond4 i = 1#1 ∧ k0_cond5 i = 1#1))
    (x0 : Vec F S8x512x128 .bf16) (x1 : Vec F S1024x4096 .bf16) (x2 : Vec F S512x1024 .f32) (x3 : Vec F S1x4096 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)) -∗ K ⟨⟩))
      ⊢ wp frame (wpE (defs₀ (F := F)) Variants.none c none) E (cc0_out_proj i arg3 harg3 arg4 harg4 arg5 harg5 arg6 harg6 arg7 harg7 arg8 harg8) K := by
  simp only [cc0_out_proj_eq_skeleton]; unfold cc0_out_proj_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg3.eq_unread hf0; obtain rfl := harg4.eq_unread hf1; obtain rfl := harg5.eq_unread hf2; obtain rfl := harg6.eq_unread hf3
  rcases hc with ⟨hc1, hc2, hc3, hc4, hc5⟩ | ⟨hc1, hc2, hc3, hc4, hc5⟩ | ⟨hc1, hc2, hc3, hc4, hc5⟩ | ⟨hc1, hc2, hc3, hc4, hc5⟩
  all_goals
    sl_exec (disch := first | sl_exact hc1 | sl_exact hc2 | sl_exact hc3 | sl_exact hc4 | sl_exact hc5)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _, _; isplitr; swap; · iexact H4
      ipureintro; rfl
    iexists _, _; isplitr; swap; · iexact HS
    ipureintro; rfl

/-- The output window, of which nothing is said. -/
def forgets0 : Fin 5 → Bool := fun w => w.val == 4

/-- The proof data of the pipeline on core `c`: the arrays as the call finds them; after the body each input's buffer
    at its block, and nothing of the output's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the contents the call finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (∃ d, owns (c : Thread nD τ) (ms4 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩⟩
  iapply (run c (grid0.coords t) _ _ _ _ _ _ _ _ _ _ _ _ (hcases t) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, H4, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  iexact H4

/-- The body at point `t`'s buffers. -/
theorem defs₀_row (t : Fin cfg0.N) :
    defs₀ (F := F) .tc cfg0.body (cfg0.bodyArgs t (cfg0.slots t)) = bodyAt0 t := by
  unfold defs₀; rw [Defs.onTc_tc]

/-- What one grid point leaves in its buffers, at every point of the grid. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every execution ends with the arrays at what the proof data allow, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2),
      (Pipeline.RDat.FramePost.arr_in h.1 c 3 rfl).trans (A_eq m c 3)⟩, h.2⟩) (run_main_quiescent m ρ)

end Cert.Kernel3.Own

end
-- ==== Proof.Out.Value.lean ====
/- The output kernel's result array over the extended reals: each row is the residual row plus the mixed heads times the
   output weights, normalised, which is what the reference program writes there. -/
module

public import proofs.«01_k».proof.Proof.Out.Frame
public import proofs.«01_k».proof.Proof.Gen.Reference3Ideal.Read
public import Idealize.ShloMosaic.PureOps.Ideal.Laws
public import Idealize.ShloMosaic.Lib.ValueIdx
public import Idealize.ShloMosaic.Lib.Pipeline.Value

@[expose] public section

set_option maxRecDepth 16384

noncomputable section

namespace Cert.Kernel3Ideal.Own

open Cert.Kernel3Ideal Cert.Kernel3Ideal.Gen
open Idealize.ShloMosaic Idealize.ShloMosaic.TcCoe Idealize.SL.Sem
open Idealize.ShloMosaic.ValueIdx (ix1 ix2 ix3)

/-- A sum over 4096 columns in four blocks of 1024. -/
theorem sum_blocks (f : Fin 4096 → EReal) :
    ∑ e, f e = ∑ j ∈ Finset.range 4, ∑ e : Fin 1024, f (⟨(1024 * j + e.val) % 4096, by omega⟩ : Fin 4096) := by
  rw [Finset.sum_range (fun j => ∑ e : Fin 1024, f (⟨(1024 * j + e.val) % 4096, by omega⟩ : Fin 4096)), ← Fintype.sum_prod_type',
    ← Equiv.sum_comp (finProdFinEquiv (m := 4) (n := 1024))]
  refine Finset.sum_congr rfl fun q _ => congrArg f (Fin.ext ?_)
  obtain ⟨j, e⟩ := q
  have hj := j.isLt
  have he := e.isLt
  show e.val + 1024 * j.val = (1024 * j.val + e.val) % 4096
  omega

/-! ## The reference's result at an index -/

/-- One term of the product of the mixed heads and the output weights. -/
def term (x : Vec Ideal S32x16384x128 .bf16) (w : Vec Ideal S4096x4096 .bf16) (R : Fin 16384) (d : Fin 4096) (e : Fin 4096) : EReal :=
  x (ix3 (⟨e.val / 128, by have := e.isLt; omega⟩ : Fin 32) R (⟨e.val % 128, by omega⟩ : Fin 128)) * w (ix2 e d)

/-- The residual row plus the product. -/
def row (x : Vec Ideal S32x16384x128 .bf16) (w : Vec Ideal S4096x4096 .bf16) (y : Vec Ideal S16384x4096 .f32) (R : Fin 16384) (d : Fin 4096) : EReal :=
  y (ix2 R d) + ∑ e, term x w R d e

theorem ref_row (x : Vec Ideal S32x16384x128 .bf16) (w : Vec Ideal S4096x4096 .bf16) (y : Vec Ideal S16384x4096 .f32) (i : S16384x4096.Idx) (r : Fin 16384) (d : Fin 4096)
    (h0 : (i 0).val = r.val) (h1 : (i 1).val = d.val) : Cert.Reference3Ideal.Read.val_main_v5 (F := Ideal) x w y i = row x w y r d := by
  obtain rfl : i = ix2 r d := funext fun a => Fin.ext (by match a with | ⟨0, _⟩ => exact h0 | ⟨1, _⟩ => exact h1)
  rw [Cert.Reference3Ideal.Read.val_main_v5_apply]
  refine congrArg (fun b : EReal => y (ix2 r d) + b) ((Cert.Reference3Ideal.Read.val_main_v4_apply x w _).trans (Finset.sum_congr rfl fun e _ => ?_))
  rw [Cert.Reference3Ideal.Read.val_main_v2_apply, Cert.Reference3Ideal.Read.val_main_v1_apply, Cert.Reference3Ideal.Read.val_main_v0_apply, Cert.Reference3Ideal.Read.val_main_v3_apply]
  have hr := r.isLt
  have he := e.isLt
  refine congrArg₂ (fun a b : EReal => a * b) (congrArg x (funext fun a => Fin.ext ?_)) (congrArg w (funext fun a => Fin.ext ?_))
  · match a with
    | ⟨0, _⟩ => show (r.val * 4096 + e.val) / 128 % 32 = e.val / 128; omega
    | ⟨1, _⟩ => show (r.val * 4096 + e.val) / 4096 = r.val; omega
    | ⟨2, _⟩ => show (r.val * 4096 + e.val) % 128 = e.val % 128; omega
  · match a with
    | ⟨0, _⟩ => rfl
    | ⟨1, _⟩ => rfl

/-- The reference's result at an index: the row, normalised. -/
theorem ref_apply (x : Vec Ideal S32x16384x128 .bf16) (w : Vec Ideal S4096x4096 .bf16) (y : Vec Ideal S16384x4096 .f32) (nw : Vec Ideal S1x4096 .f32)
    (i : S16384x4096.Idx) (r : Fin 16384) (d : Fin 4096) (h0 : (i 0).val = r.val) (h1 : (i 1).val = d.val) :
    Cert.Reference3Ideal.Read.val_main_v19 (F := Ideal) x w y nw i = row x w y r d * rowScale (row x w y r) * nw (ix2 (0 : Fin 1) d) := by
  rw [Cert.Reference3Ideal.Read.val_main_v19_apply, Cert.Reference3Ideal.Read.val_main_v16_apply]
  refine congrArg₂ (fun a b : EReal => a * b) (congrArg₂ (fun a b : EReal => a * b) (ref_row x w y i r d h0 h1) ?_) ?_
  · rw [Cert.Reference3Ideal.Read.val_main_v15_apply, Cert.Reference3Ideal.Read.val_main_v14_apply, Cert.Reference3Ideal.Read.val_main_v13_apply,
      Cert.Reference3Ideal.Read.val_main_v11_apply, Cert.Reference3Ideal.Read.val_main_v9_apply, Cert.Reference3Ideal.Read.val_main_v8_apply,
      Cert.Reference3Ideal.Read.val_main_v10_apply, Cert.Reference3Ideal.Read.val_main_v12_apply]
    unfold rowScale
    refine congrArg (fun s : EReal => FloatOps.rsqrt (F := Ideal) (φ := .f32) (FloatOps.divf (F := Ideal) (φ := .f32) s (FloatOps.ofBits (F := Ideal) .f32 0x45800000#32)
      + FloatOps.ofBits (F := Ideal) .f32 0x358637BD#32)) ?_
    refine (congrArg (fun z : EReal => z + _) (Ideal.ofBits_zero_f32)).trans ((zero_add _).trans (Finset.sum_congr rfl fun k _ => ?_))
    rw [Cert.Reference3Ideal.Read.val_main_v7_apply]
    exact congrArg (fun a : EReal => a * a) (ref_row x w y _ r k h0 rfl)
  · rw [Cert.Reference3Ideal.Read.val_main_v18_apply, Cert.Reference3Ideal.Read.val_main_v17_apply, Cert.Reference3Ideal.Read.val_main_v6_apply]
    refine congrArg nw (funext fun a => Fin.ext ?_)
    match a with
    | ⟨0, _⟩ => rfl
    | ⟨1, _⟩ => exact (congrArg (· % 4096) h1).trans (Nat.mod_eq_of_lt d.isLt)

/-! ## The blocks in their arrays -/

theorem index0 : ∀ t : Fin cfg0.N, cc0_transform_0 (grid0.coords t) = ![t.val % 8 / 2, 2 * (t.val / 8) + t.val % 2, 0] :=
  (by decide +kernel : ∀ t : Fin grid0.N, cc0_transform_0 (grid0.coords t) = ![t.val % 8 / 2, 2 * (t.val / 8) + t.val % 2, 0])
theorem index1 : ∀ t : Fin cfg0.N, cc0_transform_1 (grid0.coords t) = ![t.val % 8 / 2, 0] :=
  (by decide +kernel : ∀ t : Fin grid0.N, cc0_transform_1 (grid0.coords t) = ![t.val % 8 / 2, 0])
theorem index2 : ∀ t : Fin cfg0.N, cc0_transform_2 (grid0.coords t) = ![2 * (t.val / 8) + t.val % 2, t.val % 8 / 2] :=
  (by decide +kernel : ∀ t : Fin grid0.N, cc0_transform_2 (grid0.coords t) = ![2 * (t.val / 8) + t.val % 2, t.val % 8 / 2])
theorem index4 : ∀ t : Fin cfg0.N, 6 ≤ t.val % 8 → cc0_transform_4 (grid0.coords t) = ![2 * (t.val / 8) + t.val % 2, 0] :=
  (by decide +kernel : ∀ t : Fin grid0.N, 6 ≤ t.val % 8 → cc0_transform_4 (grid0.coords t) = ![2 * (t.val / 8) + t.val % 2, 0])
theorem flush4 : ∀ t : Fin cfg0.N, (cfg0.win 4).flush t = true ↔ 6 ≤ t.val % 8 :=
  (by decide +kernel : ∀ t : Fin grid0.N, (cfg0.win 4).flush t = true ↔ 6 ≤ t.val % 8)

variable (m : (ℓ : Loc nD τ sig) → Buf (Elt Ideal) ℓ) (ρ : Dev nD → PrngReg)

/-- The block of eight heads of point `u`. -/
theorem iblk0_apply (c : Dev nD) (u : Fin cfg0.N) (h : Fin 8) (r : Fin 512) (z : Fin 128) (H : Fin 32) (R : Fin 16384) (hH : H.val = 8 * (u.val % 8 / 2) + h.val)
    (hR : R.val = 512 * (2 * (u.val / 8) + u.val % 2) + r.val) :
    iblk m c 0 u (ix3 h r z) = m ((c : Thread nD τ).loc main_arg0) (ix3 H R z) := by
  refine congrArg (m ((c : Thread nD τ).loc main_arg0)) (funext fun a => Fin.ext ?_)
  refine (Pipeline.Window.rect_emb_val win0_0 u (ix3 h r z) a).trans ?_
  have hi : win0_0.index u a = (![u.val % 8 / 2, 2 * (u.val / 8) + u.val % 2, 0] : Fin 3 → ℕ) a := congrFun (index0 u) a
  rw [hi]
  match a with
  | ⟨0, _⟩ => show u.val % 8 / 2 * 8 + h.val = H.val; omega
  | ⟨1, _⟩ => show (2 * (u.val / 8) + u.val % 2) * 512 + r.val = R.val; omega
  | ⟨2, _⟩ => show 0 * 128 + z.val = z.val; omega

/-- The block of weights of point `u`. -/
theorem iblk1_apply (c : Dev nD) (u : Fin cfg0.N) (e : Fin 1024) (d : Fin 4096) (E : Fin 4096) (hE : E.val = 1024 * (u.val % 8 / 2) + e.val) :
    iblk m c 1 u (ix2 e d) = m ((c : Thread nD τ).loc main_arg1) (ix2 E d) := by
  refine congrArg (m ((c : Thread nD τ).loc main_arg1)) (funext fun a => Fin.ext ?_)
  refine (Pipeline.Window.rect_emb_val win0_1 u (ix2 e d) a).trans ?_
  have hi : win0_1.index u a = (![u.val % 8 / 2, 0] : Fin 2 → ℕ) a := congrFun (index1 u) a
  rw [hi]
  match a with
  | ⟨0, _⟩ => show u.val % 8 / 2 * 1024 + e.val = E.val; omega
  | ⟨1, _⟩ => show 0 * 4096 + d.val = d.val; omega

/-- The block of the residual stream of point `u`. -/
theorem iblk2_apply (c : Dev nD) (u : Fin cfg0.N) (r : Fin 512) (z : Fin 1024) (R : Fin 16384) (D : Fin 4096)
    (hR : R.val = 512 * (2 * (u.val / 8) + u.val % 2) + r.val) (hD : D.val = 1024 * (u.val % 8 / 2) + z.val) :
    iblk m c 2 u (ix2 r z) = m ((c : Thread nD τ).loc main_arg2) (ix2 R D) := by
  refine congrArg (m ((c : Thread nD τ).loc main_arg2)) (funext fun a => Fin.ext ?_)
  refine (Pipeline.Window.rect_emb_val win0_2 u (ix2 r z) a).trans ?_
  have hi : win0_2.index u a = (![2 * (u.val / 8) + u.val % 2, u.val % 8 / 2] : Fin 2 → ℕ) a := congrFun (index2 u) a
  rw [hi]
  match a with
  | ⟨0, _⟩ => show (2 * (u.val / 8) + u.val % 2) * 512 + r.val = R.val; omega
  | ⟨1, _⟩ => show u.val % 8 / 2 * 1024 + z.val = D.val; omega

/-- The block of norm weights is the array. -/
theorem iblk3_apply (c : Dev nD) (u : Fin cfg0.N) (d : Fin 4096) :
    iblk m c 3 u (ix2 (0 : Fin 1) d) = m ((c : Thread nD τ).loc main_arg3) (ix2 (0 : Fin 1) d) := by
  refine congrArg (m ((c : Thread nD τ).loc main_arg3)) (funext fun a => Fin.ext ?_)
  refine (Pipeline.Window.rect_emb_val win0_3 u (ix2 (0 : Fin 1) d) a).trans ?_
  match a with
  | ⟨0, _⟩ => rfl
  | ⟨1, _⟩ => show 0 * 4096 + d.val = d.val; omega

/-- The accumulator after the last step of a row block is the residual row plus the whole product. -/
theorem acc_apply (c : Dev nD) (b : ℕ) (hb : b < 128) (hb8 : b % 8 < 2) (r : Fin 512) (d : Fin 4096) (R : Fin 16384) (hR : R.val = 512 * (2 * (b / 8) + b % 2) + r.val) :
    Acc m c b 3 r d = row (m ((c : Thread nD τ).loc main_arg0)) (m ((c : Thread nD τ).loc main_arg1)) (m ((c : Thread nD τ).loc main_arg2)) R d := by
  have hd := d.isLt
  have hp : ∀ n : ℕ, (pt n).val = n % 128 := fun _ => rfl
  unfold Acc row
  rw [if_pos (by omega), add_comm]
  refine congrArg₂ (fun a b : EReal => a + b) ?_ ?_
  · unfold Xs
    refine iblk2_apply m c _ r _ R d ?_ ?_
    · rw [hp]; omega
    · show d.val = 1024 * ((pt (b + 2 * (d.val / 1024))).val % 8 / 2) + d.val % 1024
      rw [hp]; omega
  · rw [sum_blocks]
    refine Finset.sum_congr rfl fun j hj => ?_
    have hj4 : j < 4 := Finset.mem_range.mp hj
    unfold G headSum
    refine Finset.sum_congr rfl fun e _ => ?_
    have he := e.isLt
    unfold term
    refine congrArg₂ (fun a b : EReal => a * b) ?_ ?_
    · have ez : (⟨(1024 * j + e.val) % 4096 % 128, by omega⟩ : Fin 128) = ⟨e.val % 128, by omega⟩ := Fin.ext (by show (1024 * j + e.val) % 4096 % 128 = e.val % 128; omega)
      refine (iblk0_apply m c _ _ r _ (⟨(1024 * j + e.val) % 4096 / 128, by omega⟩ : Fin 32) R ?_ ?_).trans ?_
      · show (1024 * j + e.val) % 4096 / 128 = 8 * ((pt (b + 2 * j)).val % 8 / 2) + e.val / 128
        rw [hp]; omega
      · rw [hp]; omega
      · exact congrArg (fun z : Fin 128 => m ((c : Thread nD τ).loc main_arg0) (ix3 (⟨(1024 * j + e.val) % 4096 / 128, by omega⟩ : Fin 32) R z)) ez.symm
    · refine iblk1_apply m c _ e d _ ?_
      show (1024 * j + e.val) % 4096 = 1024 * ((pt (b + 2 * j)).val % 8 / 2) + e.val
      rw [hp]; omega

/-- The whole result array: the reference's value of the four arguments. -/
abbrev goal (c : Dev nD) : Vec Ideal S16384x4096 .f32 :=
  Cert.Reference3Ideal.Read.val_main_v19 (F := Ideal) (m ((c : Thread nD τ).loc main_arg0)) (m ((c : Thread nD τ).loc main_arg1)) (m ((c : Thread nD τ).loc main_arg2)) (m ((c : Thread nD τ).loc main_arg3))

/-- What a point of the last step leaves in the output block is the reference's value under that block. -/
theorem outOk_apply {c : Dev nD} {t : Fin cfg0.N} {X : Vec Ideal S512x4096 .f32} (h : OutOk m c t X)
    (y : S512x4096.Idx) (i : S16384x4096.Idx)
    (hi : ∀ a, (i a).val = (![2 * (t.val / 8) + t.val % 2, 0] : Fin 2 → ℕ) a * S512x4096.size a + (y a).val) :
    X y = goal m c i := by
  have hN : t.val < 128 := lt_of_lt_of_eq t.isLt N_0
  obtain ⟨r, d, rfl⟩ : ∃ (r : Fin 512) (d : Fin 4096), y = ix2 r d := ⟨y 0, y 1, funext fun a => by match a with | ⟨0, _⟩ => rfl | ⟨1, _⟩ => rfl⟩
  have hr := r.isLt
  have i0 : (i 0).val = (2 * (t.val / 8) + t.val % 2) * 512 + r.val := hi 0
  have i1 : (i 1).val = 0 * 4096 + d.val := hi 1
  let R : Fin 16384 := ⟨(2 * (t.val / 8) + t.val % 2) * 512 + r.val, by omega⟩
  have hacc : ∀ k : Fin 4096, Acc m c (8 * (t.val / 8) + t.val % 2) 3 r k
      = row (m ((c : Thread nD τ).loc main_arg0)) (m ((c : Thread nD τ).loc main_arg1)) (m ((c : Thread nD τ).loc main_arg2)) R k := fun k =>
    acc_apply m c _ (by omega) (by omega) r k R (by show (2 * (t.val / 8) + t.val % 2) * 512 + r.val = _; omega)
  refine (h r d).trans (Eq.trans ?_ (ref_apply _ _ _ _ i R d i0 (by omega)).symm)
  rw [iblk3_apply, hacc d, show (fun k => Acc m c (8 * (t.val / 8) + t.val % 2) 3 r k)
      = row (m ((c : Thread nD τ).loc main_arg0)) (m ((c : Thread nD τ).loc main_arg1)) (m ((c : Thread nD τ).loc main_arg2)) R from funext hacc]

/-- Every element of the result array is in the block of a point that is written back. -/
theorem cover (c : Dev nD) (i : S16384x4096.Idx) : ∃ t : Fin cfg0.N, (cfg0.win 4).flush t = true ∧ i ∈ ((cfg0.win 4).blk t).view.set := by
  have i0 : (i 0).val < 16384 := (i 0).isLt
  have i1 : (i 1).val < 4096 := (i 1).isLt
  obtain ⟨t, ht⟩ : ∃ t : Fin cfg0.N, t.val = 8 * ((i 0).val / 1024) + 6 + (i 0).val / 512 % 2 :=
    ⟨⟨8 * ((i 0).val / 1024) + 6 + (i 0).val / 512 % 2, by show _ < grid0.N; rw [N_0]; omega⟩, rfl⟩
  have h6 : 6 ≤ t.val % 8 := by omega
  have key : ∀ a : Fin 2, (![2 * (t.val / 8) + t.val % 2, 0] : Fin 2 → ℕ) a * (![512, 4096] : Fin 2 → ℕ) a ≤ (i a).val
      ∧ (i a).val < (![2 * (t.val / 8) + t.val % 2, 0] : Fin 2 → ℕ) a * (![512, 4096] : Fin 2 → ℕ) a + (![512, 4096] : Fin 2 → ℕ) a := by
    intro a
    match a with
    | ⟨0, _⟩ => show (2 * (t.val / 8) + t.val % 2) * 512 ≤ (i 0).val ∧ (i 0).val < (2 * (t.val / 8) + t.val % 2) * 512 + 512; omega
    | ⟨1, _⟩ => show 0 * 4096 ≤ (i 1).val ∧ (i 1).val < 0 * 4096 + 4096; omega
  rw [← index4 t h6] at key
  refine ⟨t, (flush4 t).mpr h6, ?_⟩
  show i ∈ ((View.whole main_v0).slice (win0_4.rect t)).set
  rw [View.set_slice_whole, Rect.mem_set_unit]
  exact key

/-- The kernel's run: the result array ends at the reference's value of the arguments, which end unchanged. -/
theorem run_value : θ_run (defs (F := Ideal)) (onTc (τ := τ) (main (F := Ideal))) ⟨m, fun _ => 0, ρ⟩ (fun r => ∀ c : Dev nD,
      r.2.mem ((c.tc : Thread nD τ).loc main_v0) = goal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨after, hl, hmem⟩ := Pipeline.RDat.FramePost.exists_exact h.1 c
    refine ⟨(hmem 4).trans ?_, (Pipeline.RDat.FramePost.arr_in h.1 c 0 rfl).trans (A_eq m c 0),
      (Pipeline.RDat.FramePost.arr_in h.1 c 1 rfl).trans (A_eq m c 1), (Pipeline.RDat.FramePost.arr_in h.1 c 2 rfl).trans (A_eq m c 2),
      (Pipeline.RDat.FramePost.arr_in h.1 c 3 rfl).trans (A_eq m c 3)⟩
    refine Pipeline.Dat.arrAt_eq_of_emb ((rdat m c).withAfter after) 4 _ (fun t hf y => ?_) (cover c)
    have ht : 6 ≤ t.val % 8 := (flush4 t).mp hf
    have hR : Rl m c 4 t (after 4 t) := Pipeline.Dat.toRRel_leaves (dat := dat m c) (Rl := Rl m c) (fgt := marked) rfl (hl 4 t hf)
    refine outOk_apply m (X := after 4 t) (hR ht) y (((cfg0.win 4).blk t).view.emb y) fun a => ?_
    refine (Pipeline.Window.rect_emb_val win0_4 t y a).trans ?_
    rw [show win0_4.index t a = (![2 * (t.val / 8) + t.val % 2, 0] : Fin 2 → ℕ) a from congrFun (index4 t ht) a]) (run_main m ρ)

/-- The output kernel and its reference end with the same result over the extended reals. -/
theorem algebraic (m' : (ℓ : Loc Cert.Reference3Ideal.nD Cert.Reference3Ideal.τ Cert.Reference3Ideal.sig) → Buf (Elt Ideal) ℓ)
    (ρ' : Dev Cert.Reference3Ideal.nD → PrngReg)
    (hm : ∀ c : Dev nD,
      m' ((c.tc : Thread Cert.Reference3Ideal.nD Cert.Reference3Ideal.τ).loc Cert.Reference3Ideal.main_arg0) = m ((c.tc : Thread nD τ).loc main_arg0)
      ∧ m' ((c.tc : Thread Cert.Reference3Ideal.nD Cert.Reference3Ideal.τ).loc Cert.Reference3Ideal.main_arg1) = m ((c.tc : Thread nD τ).loc main_arg1)
      ∧ m' ((c.tc : Thread Cert.Reference3Ideal.nD Cert.Reference3Ideal.τ).loc Cert.Reference3Ideal.main_arg2) = m ((c.tc : Thread nD τ).loc main_arg2)
      ∧ m' ((c.tc : Thread Cert.Reference3Ideal.nD Cert.Reference3Ideal.τ).loc Cert.Reference3Ideal.main_arg3) = m ((c.tc : Thread nD τ).loc main_arg3)) :
    θ_run (Cert.Reference3Ideal.defs (F := Ideal)) (onTc (τ := Cert.Reference3Ideal.τ) (Cert.Reference3Ideal.main (F := Ideal))) ⟨m', fun _ => 0, ρ'⟩
      (fun r => ∀ c : Dev Cert.Reference3Ideal.nD,
        r.2.mem ((c.tc : Thread Cert.Reference3Ideal.nD Cert.Reference3Ideal.τ).loc Cert.Reference3Ideal.main_v19) = goal m c
        ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)) :=
  (θ_run Cert.Reference3Ideal.defs _ _).mono (fun r h c => ⟨by
      obtain ⟨e0, e1, e2, e3⟩ := hm c
      refine (h c).1.trans ((Cert.Reference3Ideal.Read.val_main_v19_eq (F := Ideal) _ _ _ _).trans ?_)
      unfold goal
      rw [e0, e1, e2, e3], (h c).2⟩) (Cert.Reference3Ideal.Value.run (F := Ideal) m' ρ')

end Cert.Kernel3Ideal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.ReferenceIdeal
public import proofs.«01_k».proof.Proof.Gen.ReferenceIdeal.Run
public import proofs.«01_k».proof.Proof.Gen.Reference2
public import proofs.«01_k».proof.Proof.Gen.Reference2.Run
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3
public import proofs.«01_k».proof.Proof.Gen.Reference3.Run
public import proofs.«01_k».proof.Proof.Gen.Reference3Ideal
public import proofs.«01_k».proof.Proof.Gen.Reference3Ideal.Run
public import proofs.«01_k».proof.Proof.Gen.Reference3Ideal.Read
public import proofs.«01_k».proof.Proof.Norm.Frame
public import proofs.«01_k».proof.Proof.Norm.FrameBits
public import proofs.«01_k».proof.Proof.Norm.Value
public import proofs.«01_k».proof.Proof.Out.Frame
public import proofs.«01_k».proof.Proof.Out.FrameBits
public import proofs.«01_k».proof.Proof.Out.Value
public import Idealize.ShloMosaic.Adequacy
public import Idealize.ShloMosaic.Init
public import Idealize.ShloMosaic.Lib.Quiescent

@[expose] public section

noncomputable section

namespace Cert.Proof

open Idealize.ShloMosaic Idealize.SL.Sem

/-- The attention and recurrence call runs without fault, with its arguments unchanged and every counter at zero. -/
theorem mixers_frame : Cert.quiescent_Kernel := fun m ρ _ => Cert.Kernel.Gen.frame m ρ

/-- So does its ideal instance. -/
theorem mixers_ideal_frame : Cert.quiescent_KernelIdeal := fun m ρ _ => Cert.KernelIdeal.Gen.frame m ρ

/-- So does its reference: a host program without semaphores. -/
theorem mixers_reference_frame : Cert.quiescent_ReferenceIdeal := fun m ρ _ =>
  (θ_run Cert.ReferenceIdeal.defs _ _).mono (fun r h => ⟨fun c => (h c).2.2, sem_eq_zero_of_no_sems rfl r.2⟩) (Cert.ReferenceIdeal.Value.run m ρ)

/-- The four named constants of the mixers stand for their exact values. -/
theorem mixers_preserves : Cert.preserves_Kernel_KernelIdeal :=
  ⟨IdealRules.named_const.statement Cert.KernelIdeal.κ "qscale" .f32 0x3E0293EE#32 _ rfl,
    IdealRules.named_const.statement Cert.KernelIdeal.κ "mask" .f32 0xF149F2CA#32 _ rfl,
    IdealRules.named_const.statement Cert.KernelIdeal.κ "inv_ln2" .f32 0x3FB8AA3B#32 _ rfl,
    IdealRules.named_const.statement Cert.KernelIdeal.κ "inv_sqrt_d" .f32 0x3DB504F3#32 _ rfl⟩

/-- The input projection runs without fault, with its arguments unchanged and every counter at zero. -/
theorem norm_frame : Cert.quiescent_Kernel2 := fun m ρ _ => Cert.Kernel2.Own.frame m ρ

/-- So does its ideal instance. -/
theorem norm_ideal_frame : Cert.quiescent_Kernel2Ideal := fun m ρ _ => Cert.Kernel2Ideal.Own.frame m ρ

/-- So does its ideal reference, -/
theorem norm_ideal_reference_frame : Cert.quiescent_Reference2Ideal := fun m ρ _ =>
  (θ_run Cert.Reference2Ideal.defs _ _).mono (fun r h => ⟨fun c => (h c).2, sem_eq_zero_of_no_sems rfl r.2⟩) (Cert.Reference2Ideal.Value.run m ρ)

/-- and its reference. -/
theorem norm_reference_frame : Cert.quiescent_Reference2 := fun m ρ _ =>
  (θ_run Cert.Reference2.defs _ _).mono (fun r h => ⟨fun c => (h c).2, sem_eq_zero_of_no_sems rfl r.2⟩) (Cert.Reference2.Value.run m ρ)

/-- The input projection and its reference compute the same array over the extended reals. -/
theorem norm_value : Cert.algebraic_Kernel2Ideal_Reference2Ideal := fun m ρ m' ρ' _ hm =>
  ⟨fun c => Cert.Kernel2Ideal.Own.goal m c, Cert.Kernel2Ideal.Own.run_value m ρ, Cert.Kernel2Ideal.Own.algebraic m m' ρ' hm⟩

/-- The output projection runs without fault, with its arguments unchanged and every counter at zero. -/
theorem out_frame : Cert.quiescent_Kernel3 := fun m ρ _ => Cert.Kernel3.Own.frame m ρ

/-- So does its ideal instance. -/
theorem out_ideal_frame : Cert.quiescent_Kernel3Ideal := fun m ρ _ => Cert.Kernel3Ideal.Own.frame m ρ

/-- So does its ideal reference, -/
theorem out_ideal_reference_frame : Cert.quiescent_Reference3Ideal := fun m ρ _ =>
  (θ_run Cert.Reference3Ideal.defs _ _).mono (fun r h => ⟨fun c => (h c).2, sem_eq_zero_of_no_sems rfl r.2⟩) (Cert.Reference3Ideal.Value.run m ρ)

/-- and its reference. -/
theorem out_reference_frame : Cert.quiescent_Reference3 := fun m ρ _ =>
  (θ_run Cert.Reference3.defs _ _).mono (fun r h => ⟨fun c => (h c).2, sem_eq_zero_of_no_sems rfl r.2⟩) (Cert.Reference3.Value.run m ρ)

/-- The output projection and its reference compute the same array over the extended reals. -/
theorem out_value : Cert.algebraic_Kernel3Ideal_Reference3Ideal := fun m ρ m' ρ' _ hm =>
  ⟨fun c => Cert.Kernel3Ideal.Own.goal m c, Cert.Kernel3Ideal.Own.run_value m ρ, Cert.Kernel3Ideal.Own.algebraic m m' ρ' hm⟩

/-- All the claims, with the side conditions that the programs state. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Reference2.Gen.facts, Cert.Kernel3.Gen.facts, Cert.Kernel3Ideal.Gen.facts, Cert.Reference3Ideal.Gen.facts, Cert.Reference3.Gen.facts,
    mixers_frame, mixers_ideal_frame, mixers_reference_frame, norm_frame, norm_ideal_frame, norm_ideal_reference_frame, norm_reference_frame, out_frame, out_ideal_frame, out_ideal_reference_frame, out_reference_frame,
    mixers_preserves, trivial, trivial, norm_value, trivial, trivial, out_value⟩

end Cert.Proof

end
